-- ==== Defs.lean ====
def Pre_Kernel [hPre_groups_inside_table : Cert.Pre_groups_inside_table.Facts] (m : (ℓ : Loc Cert.Kernel.nD Cert.Kernel.τ Cert.Kernel.sig) → Buf (Elt Bits) ℓ) : Prop :=
  ∀ c : Dev Cert.Kernel.nD,
    (Cert.Pre_groups_inside_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_groups_inside_table : Cert.Pre_groups_inside_table.Facts] (m : (ℓ : Loc Cert.KernelIdeal.nD Cert.KernelIdeal.τ Cert.KernelIdeal.sig) → Buf (Elt Ideal) ℓ) : Prop :=
  ∀ c : Dev Cert.KernelIdeal.nD,
    (Cert.Pre_groups_inside_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_inside_table [hPre_groups_inside_table : Cert.Pre_groups_inside_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_inside_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_groups_inside_table : Cert.Pre_groups_inside_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_groups_inside_table : Cert.Pre_groups_inside_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_groups_inside_table [hReferenceIdeal : Cert.ReferenceIdeal.Facts] [hPre_groups_inside_table : Cert.Pre_groups_inside_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_inside_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_groups_inside_table : Cert.Pre_groups_inside_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_groups_inside_table : Cert.Pre_groups_inside_table.Facts),
    quiescent_Kernel (hKernel := hKernel) (hPre_groups_inside_table := hPre_groups_inside_table)
    ∧ quiescent_KernelIdeal (hKernelIdeal := hKernelIdeal) (hPre_groups_inside_table := hPre_groups_inside_table)
    ∧ quiescent_ReferenceIdeal (hReferenceIdeal := hReferenceIdeal)
    ∧ quiescent_ReferenceIdeal_pre_groups_inside_table (hReferenceIdeal := hReferenceIdeal) (hPre_groups_inside_table := hPre_groups_inside_table)
    ∧ preserves_Kernel_KernelIdeal
    ∧ algebraic_KernelIdeal_ReferenceIdeal (hKernelIdeal := hKernelIdeal) (hReferenceIdeal := hReferenceIdeal) (hPre_groups_inside_table := hPre_groups_inside_table)
-- ==== Pre_groups_inside_table.lean ====
abbrev S1024x256x14x14 : Shape := ⟨4, ![1024, 256, 14, 14]⟩
abbrev S1024 : Shape := ⟨1, ![1024]⟩
abbrev S100000x256 : Shape := ⟨2, ![100000, 256]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : FVec F S1024x256x14x14 .f32) (main_arg1 : IVec S1024 32) (main_arg2 : IVec S100000x256 1) : IVec S1024 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 99968#32
  let main_v2 : IVec S1024 32 := broadcastInDim S1024 ![] bcast_S_S1024 main_c_0
  let main_v3 : IVec S1024 1 := cmpi .slt main_arg1 main_v2
  let main_v4 : IVec S1024 1 := andi main_v1 main_v3
  main_v4
-- ==== Kernel.lean ====
abbrev S1024x256x14x14 : Shape := ⟨4, ![1024, 256, 14, 14]⟩
abbrev S1024 : Shape := ⟨1, ![1024]⟩
abbrev S100000x256 : Shape := ⟨2, ![100000, 256]⟩
abbrev S14x14x1024x256 : Shape := ⟨4, ![14, 14, 1024, 256]⟩
abbrev S196x1024x256 : Shape := ⟨3, ![196, 1024, 256]⟩
abbrev S196x32x256 : Shape := ⟨3, ![196, 32, 256]⟩
abbrev S32x256 : Shape := ⟨2, ![32, 256]⟩
abbrev S1 : Shape := ⟨1, ![1]⟩
abbrev S64x256 : Shape := ⟨2, ![64, 256]⟩
abbrev S1x256 : Shape := ⟨2, ![1, 256]⟩
abbrev S256 : Shape := ⟨1, ![256]⟩
abbrev S1x32x256 : Shape := ⟨3, ![1, 32, 256]⟩

abbrev nBuf : Space → Nat
  | .hbm => 8
  | .vmem => 6
  | .smem => 1
  | _ => 0

abbrev bufTy : (tb : Table) → Fin (tcTables nBuf tb) → BufTy
  | .hbm, ⟨0, _⟩ => ⟨S1024x256x14x14, .f32⟩
  | .hbm, ⟨1, _⟩ => ⟨S100000x256, .i1⟩
  | .hbm, ⟨2, _⟩ => ⟨S14x14x1024x256, .f32⟩
  | .hbm, ⟨3, _⟩ => ⟨S196x1024x256, .f32⟩
  | .hbm, ⟨4, _⟩ => ⟨S100000x256, .i4⟩
  | .hbm, ⟨5, _⟩ => ⟨S196x1024x256, .f32⟩
  | .hbm, ⟨6, _⟩ => ⟨S14x14x1024x256, .f32⟩
  | .hbm, ⟨7, _⟩ => ⟨S1024x256x14x14, .f32⟩
  | .local _ .vmem, ⟨0, _⟩ => ⟨S196x32x256, .f32⟩
  | .local _ .vmem, ⟨1, _⟩ => ⟨S196x32x256, .f32⟩
  | .local _ .vmem, ⟨2, _⟩ => ⟨S100000x256, .i4⟩
  | .local _ .vmem, ⟨3, _⟩ => ⟨S196x32x256, .f32⟩
  | .local _ .vmem, ⟨4, _⟩ => ⟨S196x32x256, .f32⟩
  | .local _ .vmem, ⟨5, _⟩ => ⟨S32x256, .f32⟩
  | .local _ .smem, ⟨0, _⟩ => ⟨S1024, .i32⟩
  | _, _ => ⟨S1024x256x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi v0 c0_i32
  let v2 : Index := Scalar.indexCast v1
  ![v2.toNat]
def k0_mult1 (v3 : BitVec 32) : BitVec 32 :=
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32 : BitVec 32 := 64#32
  let c0_i32_2 : BitVec 32 := 0#32
  let v10 : BitVec 1 := Scalar.cmpi .sgt c64_i32 c0_i32_2
  let v11 : BitVec 32 := Scalar.extui v10
  let c0_i32_3 : BitVec 32 := 0#32
  let v12 : BitVec 1 := Scalar.cmpi .slt c64_i32 c0_i32_3
  let v13 : BitVec 32 := Scalar.extui v12
  let v14 : BitVec 32 := Scalar.subi v11 v13
  let v15 : BitVec 1 := Scalar.cmpi .ne v9 v14
  let v16 : BitVec 32 := Scalar.remsi v3 c64_i32
  let c0_i32_4 : BitVec 32 := 0#32
  let v17 : BitVec 1 := Scalar.cmpi .ne v16 c0_i32_4
  let v18 : BitVec 1 := Scalar.andi v15 v17
  let v4 : BitVec 32 := Scalar.divsi v3 c64_i32
  let c1_i32 : BitVec 32 := 1#32
  let v19 : BitVec 32 := Scalar.subi v4 c1_i32
  let v20 : BitVec 32 := Scalar.select v18 v19 v4
  let c64_i32_5 : BitVec 32 := 64#32
  let v21 : BitVec 32 := Scalar.muli v20 c64_i32_5
  v21

def k0_off2 (v3 : BitVec 32) : Fin 2 → Nat :=
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c64_i32 : BitVec 32 := 64#32
  let c0_i32_2 : BitVec 32 := 0#32
  let v10 : BitVec 1 := Scalar.cmpi .sgt c64_i32 c0_i32_2
  let v11 : BitVec 32 := Scalar.extui v10
  let c0_i32_3 : BitVec 32 := 0#32
  let v12 : BitVec 1 := Scalar.cmpi .slt c64_i32 c0_i32_3
  let v13 : BitVec 32 := Scalar.extui v12
  let v14 : BitVec 32 := Scalar.subi v11 v13
  let v15 : BitVec 1 := Scalar.cmpi .ne v9 v14
  let v16 : BitVec 32 := Scalar.remsi v3 c64_i32
  let c0_i32_4 : BitVec 32 := 0#32
  let v17 : BitVec 1 := Scalar.cmpi .ne v16 c0_i32_4
  let v18 : BitVec 1 := Scalar.andi v15 v17
  let v4 : BitVec 32 := Scalar.divsi v3 c64_i32
  let c1_i32 : BitVec 32 := 1#32
  let v19 : BitVec 32 := Scalar.subi v4 c1_i32
  let v20 : BitVec 32 := Scalar.select v18 v19 v4
  let c64_i32_5 : BitVec 32 := 64#32
  let v21 : BitVec 32 := Scalar.muli v20 c64_i32_5
  let v22 : BitVec 32 := v21
  let v23 : Index := Scalar.indexCast v22
  let c0 : Index := 0#32
  ![v23.toNat, 0]

def k0_chk1 (v3 : BitVec 32) : Prop :=
  (64 ∣ (k0_mult1 v3).toNat) ∧
  (∀ a, (k0_off2 v3) a + S64x256.size a ≤ S100000x256.size a)
theorem k0_mult1_dvd : ∀ (v3 : BitVec 32) (k0_hw1 : k0_chk1 v3), 64 ∣ (k0_mult1 v3).toNat := fun v3 k0_hw1 => k0_hw1.1
theorem k0_off2_inb : ∀ (v3 : BitVec 32) (k0_hw1 : k0_chk1 v3), ∀ a, (k0_off2 v3) a + S64x256.size a ≤ S100000x256.size a := fun v3 k0_hw1 => k0_hw1.2

def k0_off3 (i : grid0.Coords) : Fin 1 → Nat :=
  let arg0 : BitVec 32 := BitVec.ofNat 32 (i 0).val
  let c32_i32 : BitVec 32 := 32#32
  let v0 : BitVec 32 := Scalar.muli arg0 c32_i32
  let c1_i32_15 : BitVec 32 := 1#32
  let v44 : BitVec 32 := Scalar.addi v0 c1_i32_15
  let v45 : Index := Scalar.indexCast v44
  ![v45.toNat]
def k0_mult2 (v46 : BitVec 32) : BitVec 32 :=
  let c0_i32_17 : BitVec 32 := 0#32
  let v48 : BitVec 1 := Scalar.cmpi .sgt v46 c0_i32_17
  let v49 : BitVec 32 := Scalar.extui v48
  let c0_i32_18 : BitVec 32 := 0#32
  let v50 : BitVec 1 := Scalar.cmpi .slt v46 c0_i32_18
  let v51 : BitVec 32 := Scalar.extui v50
  let v52 : BitVec 32 := Scalar.subi v49 v51
  let c64_i32_16 : BitVec 32 := 64#32
  let c0_i32_19 : BitVec 32 := 0#32
  let v53 : BitVec 1 := Scalar.cmpi .sgt c64_i32_16 c0_i32_19
  let v54 : BitVec 32 := Scalar.extui v53
  let c0_i32_20 : BitVec 32 := 0#32
  let v55 : BitVec 1 := Scalar.cmpi .slt c64_i32_16 c0_i32_20
  let v56 : BitVec 32 := Scalar.extui v55
  let v57 : BitVec 32 := Scalar.subi v54 v56
  let v58 : BitVec 1 := Scalar.cmpi .ne v52 v57
  let v59 : BitVec 32 := Scalar.remsi v46 c64_i32_16
  let c0_i32_21 : BitVec 32 := 0#32
  let v60 : BitVec 1 := Scalar.cmpi .ne v59 c0_i32_21
  let v61 : BitVec 1 := Scalar.andi v58 v60
  let v47 : BitVec 32 := Scalar.divsi v46 c64_i32_16
  let c1_i32_22 : BitVec 32 := 1#32
  let v62 : BitVec 32 := Scalar.subi v47 c1_i32_22
  let v63 : BitVec 32 := Scalar.select v61 v62 v47
  let c64_i32_23 : BitVec 32 := 64#32
  let v64 : BitVec 32 := Scalar.muli v63 c64_i32_23
  v64

def k0_off4 (v46 : BitVec 32) : Fin 2 → Nat :=
  let c0_i32_17 : BitVec 32 := 0#32
  let v48 : BitVec 1 := Scalar.cmpi .sgt v46 c0_i32_17
  let v49 : BitVec 32 := Scalar.extui v48
  let c0_i32_18 : BitVec 32 := 0#32
  let v50 : BitVec 1 := Scalar.cmpi .slt v46 c0_i32_18
  let v51 : BitVec 32 := Scalar.extui v50
  let v52 : BitVec 32 := Scalar.subi v49 v51
  let c64_i32_16 : BitVec 32 := 64#32
  let c0_i32_19 : BitVec 32 := 0#32
  let v53 : BitVec 1 := Scalar.cmpi .sgt c64_i32_16 c0_i32_19
  let v54 : BitVec 32 := Scalar.extui v53
  let c0_i32_20 : BitVec 32 := 0#32
  let v55 : BitVec 1 := Scalar.cmpi .slt c64_i32_16 c0_i32_20
  let v56 : BitVec 32 := Scalar.extui v55
  let v57 : BitVec 32 := Scalar.subi v54 v56
  let v58 : BitVec 1 := Scalar.cmpi .ne v52 v57
  let v59 : BitVec 32 := Scalar.remsi v46 c64_i32_16
  let c0_i32_21 : BitVec 32 := 0#32
  let v60 : BitVec 1 := Scalar.cmpi .ne v59 c0_i32_21
  let v61 : BitVec 1 := Scalar.andi v58 v60
  let v47 : BitVec 32 := Scalar.divsi v46 c64_i32_16
  let c1_i32_22 : BitVec 32 := 1#32
  let v62 : BitVec 32 := Scalar.subi v47 c1_i32_22
  let v63 : BitVec 32 := Scalar.select v61 v62 v47
  let c64_i32_23 : BitVec 32 := 64#32
  let v64 : BitVec 32 := Scalar.muli v63 c64_i32_23
  let v65 : BitVec 32 := v64
  let v66 : Index := Scalar.indexCast v65
  let c0_24 : Index := 0#32
  ![v66.toNat, 0]

def k0_chk2 (v46 : BitVec 32) : Prop :=
  (64 ∣ (k0_mult2 v46).toNat) ∧
  (∀ a, (k0_off4 v46) a + S64x256.size a ≤ S100000x256.size a)
theorem k0_mult2_dvd : ∀ (v46 : BitVec 32) (k0_hw2 : k0_chk2 v46), 64 ∣ (k0_mult2 v46).toNat := fun v46 k0_hw2 => k0_hw2.1
theorem k0_off4_inb : ∀ (v46 : BitVec 32) (k0_hw2 : k0_chk2 v46), ∀ a, (k0_off4 v46) a + S64x256.size a ≤ S100000x256.size a := fun v46 k0_hw2 => k0_hw2.2

def k0_off5 (i : grid0.Coords) : Fin 1 → Nat :=
  let arg0 : BitVec 32 := BitVec.ofNat 32 (i 0).val
  let c32_i32 : BitVec 32 := 32#32
  let v0 : BitVec 32 := Scalar.muli arg0 c32_i32
  let c2_i32 : BitVec 32 := 2#32
  let v87 : BitVec 32 := Scalar.addi v0 c2_i32
  let v88 : Index := Scalar.indexCast v87
  ![v88.toNat]
def k0_mult3 (v89 : BitVec 32) : BitVec 32 :=
  let c0_i32_34 : BitVec 32 := 0#32
  let v91 : BitVec 1 := Scalar.cmpi .sgt v89 c0_i32_34
  let v92 : BitVec 32 := Scalar.extui v91
  let c0_i32_35 : BitVec 32 := 0#32
  let v93 : BitVec 1 := Scalar.cmpi .slt v89 c0_i32_35
  let v94 : BitVec 32 := Scalar.extui v93
  let v95 : BitVec 32 := Scalar.subi v92 v94
  let c64_i32_33 : BitVec 32 := 64#32
  let c0_i32_36 : BitVec 32 := 0#32
  let v96 : BitVec 1 := Scalar.cmpi .sgt c64_i32_33 c0_i32_36
  let v97 : BitVec 32 := Scalar.extui v96
  let c0_i32_37 : BitVec 32 := 0#32
  let v98 : BitVec 1 := Scalar.cmpi .slt c64_i32_33 c0_i32_37
  let v99 : BitVec 32 := Scalar.extui v98
  let v100 : BitVec 32 := Scalar.subi v97 v99
  let v101 : BitVec 1 := Scalar.cmpi .ne v95 v100
  let v102 : BitVec 32 := Scalar.remsi v89 c64_i32_33
  let c0_i32_38 : BitVec 32 := 0#32
  let v103 : BitVec 1 := Scalar.cmpi .ne v102 c0_i32_38
  let v104 : BitVec 1 := Scalar.andi v101 v103
  let v90 : BitVec 32 := Scalar.divsi v89 c64_i32_33
  let c1_i32_39 : BitVec 32 := 1#32
  let v105 : BitVec 32 := Scalar.subi v90 c1_i32_39
  let v106 : BitVec 32 := Scalar.select v104 v105 v90
  let c64_i32_40 : BitVec 32 := 64#32
  let v107 : BitVec 32 := Scalar.muli v106 c64_i32_40
  v107

def k0_off6 (v89 : BitVec 32) : Fin 2 → Nat :=
  let c0_i32_34 : BitVec 32 := 0#32
  let v91 : BitVec 1 := Scalar.cmpi .sgt v89 c0_i32_34
  let v92 : BitVec 32 := Scalar.extui v91
  let c0_i32_35 : BitVec 32 := 0#32
  let v93 : BitVec 1 := Scalar.cmpi .slt v89 c0_i32_35
  let v94 : BitVec 32 := Scalar.extui v93
  let v95 : BitVec 32 := Scalar.subi v92 v94
  let c64_i32_33 : BitVec 32 := 64#32
  let c0_i32_36 : BitVec 32 := 0#32
  let v96 : BitVec 1 := Scalar.cmpi .sgt c64_i32_33 c0_i32_36
  let v97 : BitVec 32 := Scalar.extui v96
  let c0_i32_37 : BitVec 32 := 0#32
  let v98 : BitVec 1 := Scalar.cmpi .slt c64_i32_33 c0_i32_37
  let v99 : BitVec 32 := Scalar.extui v98
  let v100 : BitVec 32 := Scalar.subi v97 v99
  let v101 : BitVec 1 := Scalar.cmpi .ne v95 v100
  let v102 : BitVec 32 := Scalar.remsi v89 c64_i32_33
  let c0_i32_38 : BitVec 32 := 0#32
  let v103 : BitVec 1 := Scalar.cmpi .ne v102 c0_i32_38
  let v104 : BitVec 1 := Scalar.andi v101 v103
  let v90 : BitVec 32 := Scalar.divsi v89 c64_i32_33
  let c1_i32_39 : BitVec 32 := 1#32
  let v105 : BitVec 32 := Scalar.subi v90 c1_i32_39
  let v106 : BitVec 32 := Scalar.select v104 v105 v90
  let c64_i32_40 : BitVec 32 := 64#32
  let v107 : BitVec 32 := Scalar.muli v106 c64_i32_40
  let v108 : BitVec 32 := v107
  let v109 : Index := Scalar.indexCast v108
  let c0_41 : Index := 0#32
  ![v109.toNat, 0]

def k0_chk3 (v89 : BitVec 32) : Prop :=
  (64 ∣ (k0_mult3 v89).toNat) ∧
  (∀ a, (k0_off6 v89) a + S64x256.size a ≤ S100000x256.size a)
theorem k0_mult3_dvd : ∀ (v89 : BitVec 32) (k0_hw3 : k0_chk3 v89), 64 ∣ (k0_mult3 v89).toNat := fun v89 k0_hw3 => k0_hw3.1
theorem k0_off6_inb : ∀ (v89 : BitVec 32) (k0_hw3 : k0_chk3 v89), ∀ a, (k0_off6 v89) a + S64x256.size a ≤ S100000x256.size a := fun v89 k0_hw3 => k0_hw3.2

def k0_off7 (i : grid0.Coords) : Fin 1 → Nat :=
  let arg0 : BitVec 32 := BitVec.ofNat 32 (i 0).val
  let c32_i32 : BitVec 32 := 32#32
  let v0 : BitVec 32 := Scalar.muli arg0 c32_i32
  let c3_i32 : BitVec 32 := 3#32
  let v130 : BitVec 32 := Scalar.addi v0 c3_i32
  let v131 : Index := Scalar.indexCast v130
  ![v131.toNat]
def k0_mult4 (v132 : BitVec 32) : BitVec 32 :=
  let c0_i32_51 : BitVec 32 := 0#32
  let v134 : BitVec 1 := Scalar.cmpi .sgt v132 c0_i32_51
  let v135 : BitVec 32 := Scalar.extui v134
  let c0_i32_52 : BitVec 32 := 0#32
  let v136 : BitVec 1 := Scalar.cmpi .slt v132 c0_i32_52
  let v137 : BitVec 32 := Scalar.extui v136
  let v138 : BitVec 32 := Scalar.subi v135 v137
  let c64_i32_50 : BitVec 32 := 64#32
  let c0_i32_53 : BitVec 32 := 0#32
  let v139 : BitVec 1 := Scalar.cmpi .sgt c64_i32_50 c0_i32_53
  let v140 : BitVec 32 := Scalar.extui v139
  let c0_i32_54 : BitVec 32 := 0#32
  let v141 : BitVec 1 := Scalar.cmpi .slt c64_i32_50 c0_i32_54
  let v142 : BitVec 32 := Scalar.extui v141
  let v143 : BitVec 32 := Scalar.subi v140 v142
  let v144 : BitVec 1 := Scalar.cmpi .ne v138 v143
  let v145 : BitVec 32 := Scalar.remsi v132 c64_i32_50
  let c0_i32_55 : BitVec 32 := 0#32
  let v146 : BitVec 1 := Scalar.cmpi .ne v145 c0_i32_55
  let v147 : BitVec 1 := Scalar.andi v144 v146
  let v133 : BitVec 32 := Scalar.divsi v132 c64_i32_50
  let c1_i32_56 : BitVec 32 := 1#32
  let v148 : BitVec 32 := Scalar.subi v133 c1_i32_56
  let v149 : BitVec 32 := Scalar.select v147 v148 v133
  let c64_i32_57 : BitVec 32 := 64#32
  let v150 : BitVec 32 := Scalar.muli v149 c64_i32_57
  v150

def k0_off8 (v132 : BitVec 32) : Fin 2 → Nat :=
  let c0_i32_51 : BitVec 32 := 0#32
  let v134 : BitVec 1 := Scalar.cmpi .sgt v132 c0_i32_51
  let v135 : BitVec 32 := Scalar.extui v134
  let c0_i32_52 : BitVec 32 := 0#32
  let v136 : BitVec 1 := Scalar.cmpi .slt v132 c0_i32_52
  let v137 : BitVec 32 := Scalar.extui v136
  let v138 : BitVec 32 := Scalar.subi v135 v137
  let c64_i32_50 : BitVec 32 := 64#32
  let c0_i32_53 : BitVec 32 := 0#32
  let v139 : BitVec 1 := Scalar.cmpi .sgt c64_i32_50 c0_i32_53
  let v140 : BitVec 32 := Scalar.extui v139
  let c0_i32_54 : BitVec 32 := 0#32
  let v141 : BitVec 1 := Scalar.cmpi .slt c64_i32_50 c0_i32_54
  let v142 : BitVec 32 := Scalar.extui v141
  let v143 : BitVec 32 := Scalar.subi v140 v142
  let v144 : BitVec 1 := Scalar.cmpi .ne v138 v143
  let v145 : BitVec 32 := Scalar.remsi v132 c64_i32_50
  let c0_i32_55 : BitVec 32 := 0#32
  let v146 : BitVec 1 := Scalar.cmpi .ne v145 c0_i32_55
  let v147 : BitVec 1 := Scalar.andi v144 v146
  let v133 : BitVec 32 := Scalar.divsi v132 c64_i32_50
  let c1_i32_56 : BitVec 32 := 1#32
  let v148 : BitVec 32 := Scalar.subi v133 c1_i32_56
  let v149 : BitVec 32 := Scalar.select v147 v148 v133
  let c64_i32_57 : BitVec 32 := 64#32
  let v150 : BitVec 32 := Scalar.muli v149 c64_i32_57
  let v151 : BitVec 32 := v150
  let v152 : Index := Scalar.indexCast v151
  let c0_58 : Index := 0#32
  ![v152.toNat, 0]

def k0_chk4 (v132 : BitVec 32) : Prop :=
  (64 ∣ (k0_mult4 v132).toNat) ∧
  (∀ a, (k0_off8 v132) a + S64x256.size a ≤ S100000x256.size a)
theorem k0_mult4_dvd : ∀ (v132 : BitVec 32) (k0_hw4 : k0_chk4 v132), 64 ∣ (k0_mult4 v132).toNat := fun v132 k0_hw4 => k0_hw4.1
theorem k0_off8_inb : ∀ (v132 : BitVec 32) (k0_hw4 : k0_chk4 v132), ∀ a, (k0_off8 v132) a + S64x256.size a ≤ S100000x256.size a := fun v132 k0_hw4 => k0_hw4.2

def k0_off9 (i : grid0.Coords) : Fin 1 → Nat :=
  let arg0 : BitVec 32 := BitVec.ofNat 32 (i 0).val
  let c32_i32 : BitVec 32 := 32#32
  let v0 : BitVec 32 := Scalar.muli arg0 c32_i32
  let c4_i32 : BitVec 32 := 4#32
  let v173 : BitVec 32 := Scalar.addi v0 c4_i32
  let v174 : Index := Scalar.indexCast v173
  ![v174.toNat]
def k0_mult5 (v175 : BitVec 32) : BitVec 32 :=
  let c0_i32_68 : BitVec 32 := 0#32
  let v177 : BitVec 1 := Scalar.cmpi .sgt v175 c0_i32_68
  let v178 : BitVec 32 := Scalar.extui v177
  let c0_i32_69 : BitVec 32 := 0#32
  let v179 : BitVec 1 := Scalar.cmpi .slt v175 c0_i32_69
  let v180 : BitVec 32 := Scalar.extui v179
  let v181 : BitVec 32 := Scalar.subi v178 v180
  let c64_i32_67 : BitVec 32 := 64#32
  let c0_i32_70 : BitVec 32 := 0#32
  let v182 : BitVec 1 := Scalar.cmpi .sgt c64_i32_67 c0_i32_70
  let v183 : BitVec 32 := Scalar.extui v182
  let c0_i32_71 : BitVec 32 := 0#32
  let v184 : BitVec 1 := Scalar.cmpi .slt c64_i32_67 c0_i32_71
  let v185 : BitVec 32 := Scalar.extui v184
  let v186 : BitVec 32 := Scalar.subi v183 v185
  let v187 : BitVec 1 := Scalar.cmpi .ne v181 v186
  let v188 : BitVec 32 := Scalar.remsi v175 c64_i32_67
  let c0_i32_72 : BitVec 32 := 0#32
  let v189 : BitVec 1 := Scalar.cmpi .ne v188 c0_i32_72
  let v190 : BitVec 1 := Scalar.andi v187 v189
  let v176 : BitVec 32 := Scalar.divsi v175 c64_i32_67
  let c1_i32_73 : BitVec 32 := 1#32
  let v191 : BitVec 32 := Scalar.subi v176 c1_i32_73
  let v192 : BitVec 32 := Scalar.select v190 v191 v176
  let c64_i32_74 : BitVec 32 := 64#32
  let v193 : BitVec 32 := Scalar.muli v192 c64_i32_74
  v193

def k0_off10 (v175 : BitVec 32) : Fin 2 → Nat :=
  let c0_i32_68 : BitVec 32 := 0#32
  let v177 : BitVec 1 := Scalar.cmpi .sgt v175 c0_i32_68
  let v178 : BitVec 32 := Scalar.extui v177
  let c0_i32_69 : BitVec 32 := 0#32
  let v179 : BitVec 1 := Scalar.cmpi .slt v175 c0_i32_69
  let v180 : BitVec 32 := Scalar.extui v179
  let v181 : BitVec 32 := Scalar.subi v178 v180
  let c64_i32_67 : BitVec 32 := 64#32
  let c0_i32_70 : BitVec 32 := 0#32
  let v182 : BitVec 1 := Scalar.cmpi .sgt c64_i32_67 c0_i32_70
  let v183 : BitVec 32 := Scalar.extui v182
  let c0_i32_71 : BitVec 32 := 0#32
  let v184 : BitVec 1 := Scalar.cmpi .slt c64_i32_67 c0_i32_71
  let v185 : BitVec 32 := Scalar.extui v184
  let v186 : BitVec 32 := Scalar.subi v183 v185
  let v187 : BitVec 1 := Scalar.cmpi .ne v181 v186
  let v188 : BitVec 32 := Scalar.remsi v175 c64_i32_67
  let c0_i32_72 : BitVec 32 := 0#32
  let v189 : BitVec 1 := Scalar.cmpi .ne v188 c0_i32_72
  let v190 : BitVec 1 := Scalar.andi v187 v189
  let v176 : BitVec 32 := Scalar.divsi v175 c64_i32_67
  let c1_i32_73 : BitVec 32 := 1#32
  let v191 : BitVec 32 := Scalar.subi v176 c1_i32_73
  let v192 : BitVec 32 := Scalar.select v190 v191 v176
  let c64_i32_74 : BitVec 32 := 64#32
  let v193 : BitVec 32 := Scalar.muli v192 c64_i32_74
  let v194 : BitVec 32 := v193
  let v195 : Index := Scalar.indexCast v194
  let c0_75 : Index := 0#32
  ![v195.toNat, 0]

def k0_chk5 (v175 : BitVec 32) : Prop :=
  (64 ∣ (k0_mult5 v175).toNat) ∧
  (∀ a, (k0_off10 v175) a + S64x256.size a ≤ S100000x256.size a)
theorem k0_mult5_dvd : ∀ (v175 : BitVec 32) (k0_hw5 : k0_chk5 v175), 64 ∣ (k0_mult5 v175).toNat := fun v175 k0_hw5 => k0_hw5.1
theorem k0_off10_inb : ∀ (v175 : BitVec 32) (k0_hw5 : k0_chk5 v175), ∀ a, (k0_off10 v175) a + S64x256.size a ≤ S100000x256.size a := fun v175 k0_hw5 => k0_hw5.2

def k0_off11 (i : grid0.Coords) : Fin 1 → Nat :=
  let arg0 : BitVec 32 := BitVec.ofNat 32 (i 0).val
  let c32_i32 : BitVec 32 := 32#32
  let v0 : BitVec 32 := Scalar.muli arg0 c32_i32
  let c5_i32 : BitVec 32 := 5#32
  let v216 : BitVec 32 := Scalar.addi v0 c5_i32
  let v217 : Index := Scalar.indexCast v216
  ![v217.toNat]
def k0_mult6 (v218 : BitVec 32) : BitVec 32 :=
  let c0_i32_85 : BitVec 32 := 0#32
  let v220 : BitVec 1 := Scalar.cmpi .sgt v218 c0_i32_85
  let v221 : BitVec 32 := Scalar.extui v220
  let c0_i32_86 : BitVec 32 := 0#32
  let v222 : BitVec 1 := Scalar.cmpi .slt v218 c0_i32_86
  let v223 : BitVec 32 := Scalar.extui v222
  let v224 : BitVec 32 := Scalar.subi v221 v223
  let c64_i32_84 : BitVec 32 := 64#32
  let c0_i32_87 : BitVec 32 := 0#32
  let v225 : BitVec 1 := Scalar.cmpi .sgt c64_i32_84 c0_i32_87
  let v226 : BitVec 32 := Scalar.extui v225
  let c0_i32_88 : BitVec 32 := 0#32
  let v227 : BitVec 1 := Scalar.cmpi .slt c64_i32_84 c0_i32_88
  let v228 : BitVec 32 := Scalar.extui v227
  let v229 : BitVec 32 := Scalar.subi v226 v228
  let v230 : BitVec 1 := Scalar.cmpi .ne v224 v229
  let v231 : BitVec 32 := Scalar.remsi v218 c64_i32_84
  let c0_i32_89 : BitVec 32 := 0#32
  let v232 : BitVec 1 := Scalar.cmpi .ne v231 c0_i32_89
  let v233 : BitVec 1 := Scalar.andi v230 v232
  let v219 : BitVec 32 := Scalar.divsi v218 c64_i32_84
  let c1_i32_90 : BitVec 32 := 1#32
  let v234 : BitVec 32 := Scalar.subi v219 c1_i32_90
  let v235 : BitVec 32 := Scalar.select v233 v234 v219
  let c64_i32_91 : BitVec 32 := 64#32
  let v236 : BitVec 32 := Scalar.muli v235 c64_i32_91
  v236

def k0_off12 (v218 : BitVec 32) : Fin 2 → Nat :=
  let c0_i32_85 : BitVec 32 := 0#32
  let v220 : BitVec 1 := Scalar.cmpi .sgt v218 c0_i32_85
  let v221 : BitVec 32 := Scalar.extui v220
  let c0_i32_86 : BitVec 32 := 0#32
  let v222 : BitVec 1 := Scalar.cmpi .slt v218 c0_i32_86
  let v223 : BitVec 32 := Scalar.extui v222
  let v224 : BitVec 32 := Scalar.subi v221 v223
  let c64_i32_84 : BitVec 32 := 64#32
  let c0_i32_87 : BitVec 32 := 0#32
  let v225 : BitVec 1 := Scalar.cmpi .sgt c64_i32_84 c0_i32_87
  let v226 : BitVec 32 := Scalar.extui v225
  let c0_i32_88 : BitVec 32 := 0#32
  let v227 : BitVec 1 := Scalar.cmpi .slt c64_i32_84 c0_i32_88
  let v228 : BitVec 32 := Scalar.extui v227
  let v229 : BitVec 32 := Scalar.subi v226 v228
  let v230 : BitVec 1 := Scalar.cmpi .ne v224 v229
  let v231 : BitVec 32 := Scalar.remsi v218 c64_i32_84
  let c0_i32_89 : BitVec 32 := 0#32
  let v232 : BitVec 1 := Scalar.cmpi .ne v231 c0_i32_89
  let v233 : BitVec 1 := Scalar.andi v230 v232
  let v219 : BitVec 32 := Scalar.divsi v218 c64_i32_84
  let c1_i32_90 : BitVec 32 := 1#32
  let v234 : BitVec 32 := Scalar.subi v219 c1_i32_90
  let v235 : BitVec 32 := Scalar.select v233 v234 v219
  let c64_i32_91 : BitVec 32 := 64#32
  let v236 : BitVec 32 := Scalar.muli v235 c64_i32_91
  let v237 : BitVec 32 := v236
  let v238 : Index := Scalar.indexCast v237
  let c0_92 : Index := 0#32
  ![v238.toNat, 0]

def k0_chk6 (v218 : BitVec 32) : Prop :=
  (64 ∣ (k0_mult6 v218).toNat) ∧
  (∀ a, (k0_off12 v218) a + S64x256.size a ≤ S100000x256.size a)
theorem k0_mult6_dvd : ∀ (v218 : BitVec 32) (k0_hw6 : k0_chk6 v218), 64 ∣ (k0_mult6 v218).toNat := fun v218 k0_hw6 => k0_hw6.1
theorem k0_off12_inb : ∀ (v218 : BitVec 32) (k0_hw6 : k0_chk6 v218), ∀ a, (k0_off12 v218) a + S64x256.size a ≤ S100000x256.size a := fun v218 k0_hw6 => k0_hw6.2

def k0_off13 (i : grid0.Coords) : Fin 1 → Nat :=
  let arg0 : BitVec 32 := BitVec.ofNat 32 (i 0).val
  let c32_i32 : BitVec 32 := 32#32
  let v0 : BitVec 32 := Scalar.muli arg0 c32_i32
  let c6_i32 : BitVec 32 := 6#32
  let v259 : BitVec 32 := Scalar.addi v0 c6_i32
  let v260 : Index := Scalar.indexCast v259
  ![v260.toNat]
def k0_mult7 (v261 : BitVec 32) : BitVec 32 :=
  let c0_i32_102 : BitVec 32 := 0#32
  let v263 : BitVec 1 := Scalar.cmpi .sgt v261 c0_i32_102
  let v264 : BitVec 32 := Scalar.extui v263
  let c0_i32_103 : BitVec 32 := 0#32
  let v265 : BitVec 1 := Scalar.cmpi .slt v261 c0_i32_103
  let v266 : BitVec 32 := Scalar.extui v265
  let v267 : BitVec 32 := Scalar.subi v264 v266
  let c64_i32_101 : BitVec 32 := 64#32
  let c0_i32_104 : BitVec 32 := 0#32
  let v268 : BitVec 1 := Scalar.cmpi .sgt c64_i32_101 c0_i32_104
  let v269 : BitVec 32 := Scalar.extui v268
  let c0_i32_105 : BitVec 32 := 0#32
  let v270 : BitVec 1 := Scalar.cmpi .slt c64_i32_101 c0_i32_105
  let v271 : BitVec 32 := Scalar.extui v270
  let v272 : BitVec 32 := Scalar.subi v269 v271
  let v273 : BitVec 1 := Scalar.cmpi .ne v267 v272
  let v274 : BitVec 32 := Scalar.remsi v261 c64_i32_101
  let c0_i32_106 : BitVec 32 := 0#32
  let v275 : BitVec 1 := Scalar.cmpi .ne v274 c0_i32_106
  let v276 : BitVec 1 := Scalar.andi v273 v275
  let v262 : BitVec 32 := Scalar.divsi v261 c64_i32_101
  let c1_i32_107 : BitVec 32 := 1#32
  let v277 : BitVec 32 := Scalar.subi v262 c1_i32_107
  let v278 : BitVec 32 := Scalar.select v276 v277 v262
  let c64_i32_108 : BitVec 32 := 64#32
  let v279 : BitVec 32 := Scalar.muli v278 c64_i32_108
  v279

def k0_off14 (v261 : BitVec 32) : Fin 2 → Nat :=
  let c0_i32_102 : BitVec 32 := 0#32
  let v263 : BitVec 1 := Scalar.cmpi .sgt v261 c0_i32_102
  let v264 : BitVec 32 := Scalar.extui v263
  let c0_i32_103 : BitVec 32 := 0#32
  let v265 : BitVec 1 := Scalar.cmpi .slt v261 c0_i32_103
  let v266 : BitVec 32 := Scalar.extui v265
  let v267 : BitVec 32 := Scalar.subi v264 v266
  let c64_i32_101 : BitVec 32 := 64#32
  let c0_i32_104 : BitVec 32 := 0#32
  let v268 : BitVec 1 := Scalar.cmpi .sgt c64_i32_101 c0_i32_104
  let v269 : BitVec 32 := Scalar.extui v268
  let c0_i32_105 : BitVec 32 := 0#32
  let v270 : BitVec 1 := Scalar.cmpi .slt c64_i32_101 c0_i32_105
  let v271 : BitVec 32 := Scalar.extui v270
  let v272 : BitVec 32 := Scalar.subi v269 v271
  let v273 : BitVec 1 := Scalar.cmpi .ne v267 v272
  let v274 : BitVec 32 := Scalar.remsi v261 c64_i32_101
  let c0_i32_106 : BitVec 32 := 0#32
  let v275 : BitVec 1 := Scalar.cmpi .ne v274 c0_i32_106
  let v276 : BitVec 1 := Scalar.andi v273 v275
  let v262 : BitVec 32 := Scalar.divsi v261 c64_i32_101
  let c1_i32_107 : BitVec 32 := 1#32
  let v277 : BitVec 32 := Scalar.subi v262 c1_i32_107
  let v278 : BitVec 32 := Scalar.select v276 v277 v262
  let c64_i32_108 : BitVec 32 := 64#32
  let v279 : BitVec 32 := Scalar.muli v278 c64_i32_108
  let v280 : BitVec 32 := v279
  let v281 : Index := Scalar.indexCast v280
  let c0_109 : Index := 0#32
  ![v281.toNat, 0]

def k0_chk7 (v261 : BitVec 32) : Prop :=
  (64 ∣ (k0_mult7 v261).toNat) ∧
  (∀ a, (k0_off14 v261) a + S64x256.size a ≤ S100000x256.size a)
theorem k0_mult7_dvd : ∀ (v261 : BitVec 32) (k0_hw7 : k0_chk7 v261), 64 ∣ (k0_mult7 v261).toNat := fun v261 k0_hw7 => k0_hw7.1
theorem k0_off14_inb : ∀ (v261 : BitVec 32) (k0_hw7 : k0_chk7 v261), ∀ a, (k0_off14 v261) a + S64x256.size a ≤ S100000x256.size a := fun v261 k0_hw7 => k0_hw7.2

def k0_off15 (i : grid0.Coords) : Fin 1 → Nat :=
  let arg0 : BitVec 32 := BitVec.ofNat 32 (i 0).val
  let c32_i32 : BitVec 32 := 32#32
  let v0 : BitVec 32 := Scalar.muli arg0 c32_i32
  let c7_i32 : BitVec 32 := 7#32
  let v302 : BitVec 32 := Scalar.addi v0 c7_i32
  let v303 : Index := Scalar.indexCast v302
  ![v303.toNat]
def k0_mult8 (v304 : BitVec 32) : BitVec 32 :=
  let c0_i32_119 : BitVec 32 := 0#32
  let v306 : BitVec 1 := Scalar.cmpi .sgt v304 c0_i32_119
  let v307 : BitVec 32 := Scalar.extui v306
  let c0_i32_120 : BitVec 32 := 0#32
  let v308 : BitVec 1 := Scalar.cmpi .slt v304 c0_i32_120
  let v309 : BitVec 32 := Scalar.extui v308
  let v310 : BitVec 32 := Scalar.subi v307 v309
  let c64_i32_118 : BitVec 32 := 64#32
  let c0_i32_121 : BitVec 32 := 0#32
  let v311 : BitVec 1 := Scalar.cmpi .sgt c64_i32_118 c0_i32_121
  let v312 : BitVec 32 := Scalar.extui v311
  let c0_i32_122 : BitVec 32 := 0#32
  let v313 : BitVec 1 := Scalar.cmpi .slt c64_i32_118 c0_i32_122
  let v314 : BitVec 32 := Scalar.extui v313
  let v315 : BitVec 32 := Scalar.subi v312 v314
  let v316 : BitVec 1 := Scalar.cmpi .ne v310 v315
  let v317 : BitVec 32 := Scalar.remsi v304 c64_i32_118
  let c0_i32_123 : BitVec 32 := 0#32
  let v318 : BitVec 1 := Scalar.cmpi .ne v317 c0_i32_123
  let v319 : BitVec 1 := Scalar.andi v316 v318
  let v305 : BitVec 32 := Scalar.divsi v304 c64_i32_118
  let c1_i32_124 : BitVec 32 := 1#32
  let v320 : BitVec 32 := Scalar.subi v305 c1_i32_124
  let v321 : BitVec 32 := Scalar.select v319 v320 v305
  let c64_i32_125 : BitVec 32 := 64#32
  let v322 : BitVec 32 := Scalar.muli v321 c64_i32_125
  v322

def k0_off16 (v304 : BitVec 32) : Fin 2 → Nat :=
  let c0_i32_119 : BitVec 32 := 0#32
  let v306 : BitVec 1 := Scalar.cmpi .sgt v304 c0_i32_119
  let v307 : BitVec 32 := Scalar.extui v306
  let c0_i32_120 : BitVec 32 := 0#32
  let v308 : BitVec 1 := Scalar.cmpi .slt v304 c0_i32_120
  let v309 : BitVec 32 := Scalar.extui v308
  let v310 : BitVec 32 := Scalar.subi v307 v309
  let c64_i32_118 : BitVec 32 := 64#32
  let c0_i32_121 : BitVec 32 := 0#32
  let v311 : BitVec 1 := Scalar.cmpi .sgt c64_i32_118 c0_i32_121
  let v312 : BitVec 32 := Scalar.extui v311
  let c0_i32_122 : BitVec 32 := 0#32
  let v313 : BitVec 1 := Scalar.cmpi .slt c64_i32_118 c0_i32_122
  let v314 : BitVec 32 := Scalar.extui v313
  let v315 : BitVec 32 := Scalar.subi v312 v314
  let v316 : BitVec 1 := Scalar.cmpi .ne v310 v315
  let v317 : BitVec 32 := Scalar.remsi v304 c64_i32_118
  let c0_i32_123 : BitVec 32 := 0#32
  let v318 : BitVec 1 := Scalar.cmpi .ne v317 c0_i32_123
  let v319 : BitVec 1 := Scalar.andi v316 v318
  let v305 : BitVec 32 := Scalar.divsi v304 c64_i32_118
  let c1_i32_124 : BitVec 32 := 1#32
  let v320 : BitVec 32 := Scalar.subi v305 c1_i32_124
  let v321 : BitVec 32 := Scalar.select v319 v320 v305
  let c64_i32_125 : BitVec 32 := 64#32
  let v322 : BitVec 32 := Scalar.muli v321 c64_i32_125
  let v323 : BitVec 32 := v322
  let v324 : Index := Scalar.indexCast v323
  let c0_126 : Index := 0#32
  ![v324.toNat, 0]

def k0_chk8 (v304 : BitVec 32) : Prop :=
  (64 ∣ (k0_mult8 v304).toNat) ∧
  (∀ a, (k0_off16 v304) a + S64x256.size a ≤ S100000x256.size a)
theorem k0_mult8_dvd : ∀ (v304 : BitVec 32) (k0_hw8 : k0_chk8 v304), 64 ∣ (k0_mult8 v304).toNat := fun v304 k0_hw8 => k0_hw8.1
theorem k0_off16_inb : ∀ (v304 : BitVec 32) (k0_hw8 : k0_chk8 v304), ∀ a, (k0_off16 v304) a + S64x256.size a ≤ S100000x256.size a := fun v304 k0_hw8 => k0_hw8.2

def k0_off17 (i : grid0.Coords) : Fin 1 → Nat :=
  let arg0 : BitVec 32 := BitVec.ofNat 32 (i 0).val
  let c32_i32 : BitVec 32 := 32#32
  let v0 : BitVec 32 := Scalar.muli arg0 c32_i32
  let c8_i32 : BitVec 32 := 8#32
  let v345 : BitVec 32 := Scalar.addi v0 c8_i32
  let v346 : Index := Scalar.indexCast v345
  ![v346.toNat]
def k0_mult9 (v347 : BitVec 32) : BitVec 32 :=
  let c0_i32_136 : BitVec 32 := 0#32
  let v349 : BitVec 1 := Scalar.cmpi .sgt v347 c0_i32_136
  let v350 : BitVec 32 := Scalar.extui v349
  let c0_i32_137 : BitVec 32 := 0#32
  let v351 : BitVec 1 := Scalar.cmpi .slt v347 c0_i32_137
  let v352 : BitVec 32 := Scalar.extui v351
  let v353 : BitVec 32 := Scalar.subi v350 v352
  let c64_i32_135 : BitVec 32 := 64#32
  let c0_i32_138 : BitVec 32 := 0#32
  let v354 : BitVec 1 := Scalar.cmpi .sgt c64_i32_135 c0_i32_138
  let v355 : BitVec 32 := Scalar.extui v354
  let c0_i32_139 : BitVec 32 := 0#32
  let v356 : BitVec 1 := Scalar.cmpi .slt c64_i32_135 c0_i32_139
  let v357 : BitVec 32 := Scalar.extui v356
  let v358 : BitVec 32 := Scalar.subi v355 v357
  let v359 : BitVec 1 := Scalar.cmpi .ne v353 v358
  let v360 : BitVec 32 := Scalar.remsi v347 c64_i32_135
  let c0_i32_140 : BitVec 32 := 0#32
  let v361 : BitVec 1 := Scalar.cmpi .ne v360 c0_i32_140
  let v362 : BitVec 1 := Scalar.andi v359 v361
  let v348 : BitVec 32 := Scalar.divsi v347 c64_i32_135
  let c1_i32_141 : BitVec 32 := 1#32
  let v363 : BitVec 32 := Scalar.subi v348 c1_i32_141
  let v364 : BitVec 32 := Scalar.select v362 v363 v348
  let c64_i32_142 : BitVec 32 := 64#32
  let v365 : BitVec 32 := Scalar.muli v364 c64_i32_142
  v365

def k0_off18 (v347 : BitVec 32) : Fin 2 → Nat :=
  let c0_i32_136 : BitVec 32 := 0#32
  let v349 : BitVec 1 := Scalar.cmpi .sgt v347 c0_i32_136
  let v350 : BitVec 32 := Scalar.extui v349
  let c0_i32_137 : BitVec 32 := 0#32
  let v351 : BitVec 1 := Scalar.cmpi .slt v347 c0_i32_137
  let v352 : BitVec 32 := Scalar.extui v351
  let v353 : BitVec 32 := Scalar.subi v350 v352
  let c64_i32_135 : BitVec 32 := 64#32
  let c0_i32_138 : BitVec 32 := 0#32
  let v354 : BitVec 1 := Scalar.cmpi .sgt c64_i32_135 c0_i32_138
  let v355 : BitVec 32 := Scalar.extui v354
  let c0_i32_139 : BitVec 32 := 0#32
  let v356 : BitVec 1 := Scalar.cmpi .slt c64_i32_135 c0_i32_139
  let v357 : BitVec 32 := Scalar.extui v356
  let v358 : BitVec 32 := Scalar.subi v355 v357
  let v359 : BitVec 1 := Scalar.cmpi .ne v353 v358
  let v360 : BitVec 32 := Scalar.remsi v347 c64_i32_135
  let c0_i32_140 : BitVec 32 := 0#32
  let v361 : BitVec 1 := Scalar.cmpi .ne v360 c0_i32_140
  let v362 : BitVec 1 := Scalar.andi v359 v361
  let v348 : BitVec 32 := Scalar.divsi v347 c64_i32_135
  let c1_i32_141 : BitVec 32 := 1#32
  let v363 : BitVec 32 := Scalar.subi v348 c1_i32_141
  let v364 : BitVec 32 := Scalar.select v362 v363 v348
  let c64_i32_142 : BitVec 32 := 64#32
  let v365 : BitVec 32 := Scalar.muli v364 c64_i32_142
  let v366 : BitVec 32 := v365
  let v367 : Index := Scalar.indexCast v366
  let c0_143 : Index := 0#32
  ![v367.toNat, 0]

def k0_chk9 (v347 : BitVec 32) : Prop :=
  (64 ∣ (k0_mult9 v347).toNat) ∧
  (∀ a, (k0_off18 v347) a + S64x256.size a ≤ S100000x256.size a)
theorem k0_mult9_dvd : ∀ (v347 : BitVec 32) (k0_hw9 : k0_chk9 v347), 64 ∣ (k0_mult9 v347).toNat := fun v347 k0_hw9 => k0_hw9.1
theorem k0_off18_inb : ∀ (v347 : BitVec 32) (k0_hw9 : k0_chk9 v347), ∀ a, (k0_off18 v347) a + S64x256.size a ≤ S100000x256.size a := fun v347 k0_hw9 => k0_hw9.2

def k0_off19 (i : grid0.Coords) : Fin 1 → Nat :=
  let arg0 : BitVec 32 := BitVec.ofNat 32 (i 0).val
  let c32_i32 : BitVec 32 := 32#32
  let v0 : BitVec 32 := Scalar.muli arg0 c32_i32
  let c9_i32 : BitVec 32 := 9#32
  let v388 : BitVec 32 := Scalar.addi v0 c9_i32
  let v389 : Index := Scalar.indexCast v388
  ![v389.toNat]
def k0_mult10 (v390 : BitVec 32) : BitVec 32 :=
  let c0_i32_153 : BitVec 32 := 0#32
  let v392 : BitVec 1 := Scalar.cmpi .sgt v390 c0_i32_153
  let v393 : BitVec 32 := Scalar.extui v392
  let c0_i32_154 : BitVec 32 := 0#32
  let v394 : BitVec 1 := Scalar.cmpi .slt v390 c0_i32_154
  let v395 : BitVec 32 := Scalar.extui v394
  let v396 : BitVec 32 := Scalar.subi v393 v395
  let c64_i32_152 : BitVec 32 := 64#32
  let c0_i32_155 : BitVec 32 := 0#32
  let v397 : BitVec 1 := Scalar.cmpi .sgt c64_i32_152 c0_i32_155
  let v398 : BitVec 32 := Scalar.extui v397
  let c0_i32_156 : BitVec 32 := 0#32
  let v399 : BitVec 1 := Scalar.cmpi .slt c64_i32_152 c0_i32_156
  let v400 : BitVec 32 := Scalar.extui v399
  let v401 : BitVec 32 := Scalar.subi v398 v400
  let v402 : BitVec 1 := Scalar.cmpi .ne v396 v401
  let v403 : BitVec 32 := Scalar.remsi v390 c64_i32_152
  let c0_i32_157 : BitVec 32 := 0#32
  let v404 : BitVec 1 := Scalar.cmpi .ne v403 c0_i32_157
  let v405 : BitVec 1 := Scalar.andi v402 v404
  let v391 : BitVec 32 := Scalar.divsi v390 c64_i32_152
  let c1_i32_158 : BitVec 32 := 1#32
  let v406 : BitVec 32 := Scalar.subi v391 c1_i32_158
  let v407 : BitVec 32 := Scalar.select v405 v406 v391
  let c64_i32_159 : BitVec 32 := 64#32
  let v408 : BitVec 32 := Scalar.muli v407 c64_i32_159
  v408

def k0_off20 (v390 : BitVec 32) : Fin 2 → Nat :=
  let c0_i32_153 : BitVec 32 := 0#32
  let v392 : BitVec 1 := Scalar.cmpi .sgt v390 c0_i32_153
  let v393 : BitVec 32 := Scalar.extui v392
  let c0_i32_154 : BitVec 32 := 0#32
  let v394 : BitVec 1 := Scalar.cmpi .slt v390 c0_i32_154
  let v395 : BitVec 32 := Scalar.extui v394
  let v396 : BitVec 32 := Scalar.subi v393 v395
  let c64_i32_152 : BitVec 32 := 64#32
  let c0_i32_155 : BitVec 32 := 0#32
  let v397 : BitVec 1 := Scalar.cmpi .sgt c64_i32_152 c0_i32_155
  let v398 : BitVec 32 := Scalar.extui v397
  let c0_i32_156 : BitVec 32 := 0#32
  let v399 : BitVec 1 := Scalar.cmpi .slt c64_i32_152 c0_i32_156
  let v400 : BitVec 32 := Scalar.extui v399
  let v401 : BitVec 32 := Scalar.subi v398 v400
  let v402 : BitVec 1 := Scalar.cmpi .ne v396 v401
  let v403 : BitVec 32 := Scalar.remsi v390 c64_i32_152
  let c0_i32_157 : BitVec 32 := 0#32
  let v404 : BitVec 1 := Scalar.cmpi .ne v403 c0_i32_157
  let v405 : BitVec 1 := Scalar.andi v402 v404
  let v391 : BitVec 32 := Scalar.divsi v390 c64_i32_152
  let c1_i32_158 : BitVec 32 := 1#32
  let v406 : BitVec 32 := Scalar.subi v391 c1_i32_158
  let v407 : BitVec 32 := Scalar.select v405 v406 v391
  let c64_i32_159 : BitVec 32 := 64#32
  let v408 : BitVec 32 := Scalar.muli v407 c64_i32_159
  let v409 : BitVec 32 := v408
  let v410 : Index := Scalar.indexCast v409
  let c0_160 : Index := 0#32
  ![v410.toNat, 0]

def k0_chk10 (v390 : BitVec 32) : Prop :=
  (64 ∣ (k0_mult10 v390).toNat) ∧
  (∀ a, (k0_off20 v390) a + S64x256.size a ≤ S100000x256.size a)
theorem k0_mult10_dvd : ∀ (v390 : BitVec 32) (k0_hw10 : k0_chk10 v390), 64 ∣ (k0_mult10 v390).toNat := fun v390 k0_hw10 => k0_hw10.1
theorem k0_off20_inb : ∀ (v390 : BitVec 32) (k0_hw10 : k0_chk10 v390), ∀ a, (k0_off20 v390) a + S64x256.size a ≤ S100000x256.size a := fun v390 k0_hw10 => k0_hw10.2

def k0_off21 (i : grid0.Coords) : Fin 1 → Nat :=
  let arg0 : BitVec 32 := BitVec.ofNat 32 (i 0).val
  let c32_i32 : BitVec 32 := 32#32
  let v0 : BitVec 32 := Scalar.muli arg0 c32_i32
  let c10_i32 : BitVec 32 := 10#32
  let v431 : BitVec 32 := Scalar.addi v0 c10_i32
  let v432 : Index := Scalar.indexCast v431
  ![v432.toNat]
def k0_mult11 (v433 : BitVec 32) : BitVec 32 :=
  let c0_i32_170 : BitVec 32 := 0#32
  let v435 : BitVec 1 := Scalar.cmpi .sgt v433 c0_i32_170
  let v436 : BitVec 32 := Scalar.extui v435
  let c0_i32_171 : BitVec 32 := 0#32
  let v437 : BitVec 1 := Scalar.cmpi .slt v433 c0_i32_171
  let v438 : BitVec 32 := Scalar.extui v437
  let v439 : BitVec 32 := Scalar.subi v436 v438
  let c64_i32_169 : BitVec 32 := 64#32
  let c0_i32_172 : BitVec 32 := 0#32
  let v440 : BitVec 1 := Scalar.cmpi .sgt c64_i32_169 c0_i32_172
  let v441 : BitVec 32 := Scalar.extui v440
  let c0_i32_173 : BitVec 32 := 0#32
  let v442 : BitVec 1 := Scalar.cmpi .slt c64_i32_169 c0_i32_173
  let v443 : BitVec 32 := Scalar.extui v442
  let v444 : BitVec 32 := Scalar.subi v441 v443
  let v445 : BitVec 1 := Scalar.cmpi .ne v439 v444
  let v446 : BitVec 32 := Scalar.remsi v433 c64_i32_169
  let c0_i32_174 : BitVec 32 := 0#32
  let v447 : BitVec 1 := Scalar.cmpi .ne v446 c0_i32_174
  let v448 : BitVec 1 := Scalar.andi v445 v447
  let v434 : BitVec 32 := Scalar.divsi v433 c64_i32_169
  let c1_i32_175 : BitVec 32 := 1#32
  let v449 : BitVec 32 := Scalar.subi v434 c1_i32_175
  let v450 : BitVec 32 := Scalar.select v448 v449 v434
  let c64_i32_176 : BitVec 32 := 64#32
  let v451 : BitVec 32 := Scalar.muli v450 c64_i32_176
  v451

def k0_off22 (v433 : BitVec 32) : Fin 2 → Nat :=
  let c0_i32_170 : BitVec 32 := 0#32
  let v435 : BitVec 1 := Scalar.cmpi .sgt v433 c0_i32_170
  let v436 : BitVec 32 := Scalar.extui v435
  let c0_i32_171 : BitVec 32 := 0#32
  let v437 : BitVec 1 := Scalar.cmpi .slt v433 c0_i32_171
  let v438 : BitVec 32 := Scalar.extui v437
  let v439 : BitVec 32 := Scalar.subi v436 v438
  let c64_i32_169 : BitVec 32 := 64#32
  let c0_i32_172 : BitVec 32 := 0#32
  let v440 : BitVec 1 := Scalar.cmpi .sgt c64_i32_169 c0_i32_172
  let v441 : BitVec 32 := Scalar.extui v440
  let c0_i32_173 : BitVec 32 := 0#32
  let v442 : BitVec 1 := Scalar.cmpi .slt c64_i32_169 c0_i32_173
  let v443 : BitVec 32 := Scalar.extui v442
  let v444 : BitVec 32 := Scalar.subi v441 v443
  let v445 : BitVec 1 := Scalar.cmpi .ne v439 v444
  let v446 : BitVec 32 := Scalar.remsi v433 c64_i32_169
  let c0_i32_174 : BitVec 32 := 0#32
  let v447 : BitVec 1 := Scalar.cmpi .ne v446 c0_i32_174
  let v448 : BitVec 1 := Scalar.andi v445 v447
  let v434 : BitVec 32 := Scalar.divsi v433 c64_i32_169
  let c1_i32_175 : BitVec 32 := 1#32
  let v449 : BitVec 32 := Scalar.subi v434 c1_i32_175
  let v450 : BitVec 32 := Scalar.select v448 v449 v434
  let c64_i32_176 : BitVec 32 := 64#32
  let v451 : BitVec 32 := Scalar.muli v450 c64_i32_176
  let v452 : BitVec 32 := v451
  let v453 : Index := Scalar.indexCast v452
  let c0_177 : Index := 0#32
  ![v453.toNat, 0]

def k0_chk11 (v433 : BitVec 32) : Prop :=
  (64 ∣ (k0_mult11 v433).toNat) ∧
  (∀ a, (k0_off22 v433) a + S64x256.size a ≤ S100000x256.size a)
theorem k0_mult11_dvd : ∀ (v433 : BitVec 32) (k0_hw11 : k0_chk11 v433), 64 ∣ (k0_mult11 v433).toNat := fun v433 k0_hw11 => k0_hw11.1
theorem k0_off22_inb : ∀ (v433 : BitVec 32) (k0_hw11 : k0_chk11 v433), ∀ a, (k0_off22 v433) a + S64x256.size a ≤ S100000x256.size a := fun v433 k0_hw11 => k0_hw11.2

def k0_off23 (i : grid0.Coords) : Fin 1 → Nat :=
  let arg0 : BitVec 32 := BitVec.ofNat 32 (i 0).val
  let c32_i32 : BitVec 32 := 32#32
  let v0 : BitVec 32 := Scalar.muli arg0 c32_i32
  let c11_i32 : BitVec 32 := 11#32
  let v474 : BitVec 32 := Scalar.addi v0 c11_i32
  let v475 : Index := Scalar.indexCast v474
  ![v475.toNat]
def k0_mult12 (v476 : BitVec 32) : BitVec 32 :=
  let c0_i32_187 : BitVec 32 := 0#32
  let v478 : BitVec 1 := Scalar.cmpi .sgt v476 c0_i32_187
  let v479 : BitVec 32 := Scalar.extui v478
  let c0_i32_188 : BitVec 32 := 0#32
  let v480 : BitVec 1 := Scalar.cmpi .slt v476 c0_i32_188
  let v481 : BitVec 32 := Scalar.extui v480
  let v482 : BitVec 32 := Scalar.subi v479 v481
  let c64_i32_186 : BitVec 32 := 64#32
  let c0_i32_189 : BitVec 32 := 0#32
  let v483 : BitVec 1 := Scalar.cmpi .sgt c64_i32_186 c0_i32_189
  let v484 : BitVec 32 := Scalar.extui v483
  let c0_i32_190 : BitVec 32 := 0#32
  let v485 : BitVec 1 := Scalar.cmpi .slt c64_i32_186 c0_i32_190
  let v486 : BitVec 32 := Scalar.extui v485
  let v487 : BitVec 32 := Scalar.subi v484 v486
  let v488 : BitVec 1 := Scalar.cmpi .ne v482 v487
  let v489 : BitVec 32 := Scalar.remsi v476 c64_i32_186
  let c0_i32_191 : BitVec 32 := 0#32
  let v490 : BitVec 1 := Scalar.cmpi .ne v489 c0_i32_191
  let v491 : BitVec 1 := Scalar.andi v488 v490
  let v477 : BitVec 32 := Scalar.divsi v476 c64_i32_186
  let c1_i32_192 : BitVec 32 := 1#32
  let v492 : BitVec 32 := Scalar.subi v477 c1_i32_192
  let v493 : BitVec 32 := Scalar.select v491 v492 v477
  let c64_i32_193 : BitVec 32 := 64#32
  let v494 : BitVec 32 := Scalar.muli v493 c64_i32_193
  v494

def k0_off24 (v476 : BitVec 32) : Fin 2 → Nat :=
  let c0_i32_187 : BitVec 32 := 0#32
  let v478 : BitVec 1 := Scalar.cmpi .sgt v476 c0_i32_187
  let v479 : BitVec 32 := Scalar.extui v478
  let c0_i32_188 : BitVec 32 := 0#32
  let v480 : BitVec 1 := Scalar.cmpi .slt v476 c0_i32_188
  let v481 : BitVec 32 := Scalar.extui v480
  let v482 : BitVec 32 := Scalar.subi v479 v481
  let c64_i32_186 : BitVec 32 := 64#32
  let c0_i32_189 : BitVec 32 := 0#32
  let v483 : BitVec 1 := Scalar.cmpi .sgt c64_i32_186 c0_i32_189
  let v484 : BitVec 32 := Scalar.extui v483
  let c0_i32_190 : BitVec 32 := 0#32
  let v485 : BitVec 1 := Scalar.cmpi .slt c64_i32_186 c0_i32_190
  let v486 : BitVec 32 := Scalar.extui v485
  let v487 : BitVec 32 := Scalar.subi v484 v486
  let v488 : BitVec 1 := Scalar.cmpi .ne v482 v487
  let v489 : BitVec 32 := Scalar.remsi v476 c64_i32_186
  let c0_i32_191 : BitVec 32 := 0#32
  let v490 : BitVec 1 := Scalar.cmpi .ne v489 c0_i32_191
  let v491 : BitVec 1 := Scalar.andi v488 v490
  let v477 : BitVec 32 := Scalar.divsi v476 c64_i32_186
  let c1_i32_192 : BitVec 32 := 1#32
  let v492 : BitVec 32 := Scalar.subi v477 c1_i32_192
  let v493 : BitVec 32 := Scalar.select v491 v492 v477
  let c64_i32_193 : BitVec 32 := 64#32
  let v494 : BitVec 32 := Scalar.muli v493 c64_i32_193
  let v495 : BitVec 32 := v494
  let v496 : Index := Scalar.indexCast v495
  let c0_194 : Index := 0#32
  ![v496.toNat, 0]

def k0_chk12 (v476 : BitVec 32) : Prop :=
  (64 ∣ (k0_mult12 v476).toNat) ∧
  (∀ a, (k0_off24 v476) a + S64x256.size a ≤ S100000x256.size a)
theorem k0_mult12_dvd : ∀ (v476 : BitVec 32) (k0_hw12 : k0_chk12 v476), 64 ∣ (k0_mult12 v476).toNat := fun v476 k0_hw12 => k0_hw12.1
theorem k0_off24_inb : ∀ (v476 : BitVec 32) (k0_hw12 : k0_chk12 v476), ∀ a, (k0_off24 v476) a + S64x256.size a ≤ S100000x256.size a := fun v476 k0_hw12 => k0_hw12.2

def k0_off25 (i : grid0.Coords) : Fin 1 → Nat :=
  let arg0 : BitVec 32 := BitVec.ofNat 32 (i 0).val
  let c32_i32 : BitVec 32 := 32#32
  let v0 : BitVec 32 := Scalar.muli arg0 c32_i32
  let c12_i32 : BitVec 32 := 12#32
  let v517 : BitVec 32 := Scalar.addi v0 c12_i32
  let v518 : Index := Scalar.indexCast v517
  ![v518.toNat]
def k0_mult13 (v519 : BitVec 32) : BitVec 32 :=
  let c0_i32_204 : BitVec 32 := 0#32
  let v521 : BitVec 1 := Scalar.cmpi .sgt v519 c0_i32_204
  let v522 : BitVec 32 := Scalar.extui v521
  let c0_i32_205 : BitVec 32 := 0#32
  let v523 : BitVec 1 := Scalar.cmpi .slt v519 c0_i32_205
  let v524 : BitVec 32 := Scalar.extui v523
  let v525 : BitVec 32 := Scalar.subi v522 v524
  let c64_i32_203 : BitVec 32 := 64#32
  let c0_i32_206 : BitVec 32 := 0#32
  let v526 : BitVec 1 := Scalar.cmpi .sgt c64_i32_203 c0_i32_206
  let v527 : BitVec 32 := Scalar.extui v526
  let c0_i32_207 : BitVec 32 := 0#32
  let v528 : BitVec 1 := Scalar.cmpi .slt c64_i32_203 c0_i32_207
  let v529 : BitVec 32 := Scalar.extui v528
  let v530 : BitVec 32 := Scalar.subi v527 v529
  let v531 : BitVec 1 := Scalar.cmpi .ne v525 v530
  let v532 : BitVec 32 := Scalar.remsi v519 c64_i32_203
  let c0_i32_208 : BitVec 32 := 0#32
  let v533 : BitVec 1 := Scalar.cmpi .ne v532 c0_i32_208
  let v534 : BitVec 1 := Scalar.andi v531 v533
  let v520 : BitVec 32 := Scalar.divsi v519 c64_i32_203
  let c1_i32_209 : BitVec 32 := 1#32
  let v535 : BitVec 32 := Scalar.subi v520 c1_i32_209
  let v536 : BitVec 32 := Scalar.select v534 v535 v520
  let c64_i32_210 : BitVec 32 := 64#32
  let v537 : BitVec 32 := Scalar.muli v536 c64_i32_210
  v537

def k0_off26 (v519 : BitVec 32) : Fin 2 → Nat :=
  let c0_i32_204 : BitVec 32 := 0#32
  let v521 : BitVec 1 := Scalar.cmpi .sgt v519 c0_i32_204
  let v522 : BitVec 32 := Scalar.extui v521
  let c0_i32_205 : BitVec 32 := 0#32
  let v523 : BitVec 1 := Scalar.cmpi .slt v519 c0_i32_205
  let v524 : BitVec 32 := Scalar.extui v523
  let v525 : BitVec 32 := Scalar.subi v522 v524
  let c64_i32_203 : BitVec 32 := 64#32
  let c0_i32_206 : BitVec 32 := 0#32
  let v526 : BitVec 1 := Scalar.cmpi .sgt c64_i32_203 c0_i32_206
  let v527 : BitVec 32 := Scalar.extui v526
  let c0_i32_207 : BitVec 32 := 0#32
  let v528 : BitVec 1 := Scalar.cmpi .slt c64_i32_203 c0_i32_207
  let v529 : BitVec 32 := Scalar.extui v528
  let v530 : BitVec 32 := Scalar.subi v527 v529
  let v531 : BitVec 1 := Scalar.cmpi .ne v525 v530
  let v532 : BitVec 32 := Scalar.remsi v519 c64_i32_203
  let c0_i32_208 : BitVec 32 := 0#32
  let v533 : BitVec 1 := Scalar.cmpi .ne v532 c0_i32_208
  let v534 : BitVec 1 := Scalar.andi v531 v533
  let v520 : BitVec 32 := Scalar.divsi v519 c64_i32_203
  let c1_i32_209 : BitVec 32 := 1#32
  let v535 : BitVec 32 := Scalar.subi v520 c1_i32_209
  let v536 : BitVec 32 := Scalar.select v534 v535 v520
  let c64_i32_210 : BitVec 32 := 64#32
  let v537 : BitVec 32 := Scalar.muli v536 c64_i32_210
  let v538 : BitVec 32 := v537
  let v539 : Index := Scalar.indexCast v538
  let c0_211 : Index := 0#32
  ![v539.toNat, 0]

def k0_chk13 (v519 : BitVec 32) : Prop :=
  (64 ∣ (k0_mult13 v519).toNat) ∧
  (∀ a, (k0_off26 v519) a + S64x256.size a ≤ S100000x256.size a)
theorem k0_mult13_dvd : ∀ (v519 : BitVec 32) (k0_hw13 : k0_chk13 v519), 64 ∣ (k0_mult13 v519).toNat := fun v519 k0_hw13 => k0_hw13.1
theorem k0_off26_inb : ∀ (v519 : BitVec 32) (k0_hw13 : k0_chk13 v519), ∀ a, (k0_off26 v519) a + S64x256.size a ≤ S100000x256.size a := fun v519 k0_hw13 => k0_hw13.2

def k0_off27 (i : grid0.Coords) : Fin 1 → Nat :=
  let arg0 : BitVec 32 := BitVec.ofNat 32 (i 0).val
  let c32_i32 : BitVec 32 := 32#32
  let v0 : BitVec 32 := Scalar.muli arg0 c32_i32
  let c13_i32 : BitVec 32 := 13#32
  let v560 : BitVec 32 := Scalar.addi v0 c13_i32
  let v561 : Index := Scalar.indexCast v560
  ![v561.toNat]
def k0_mult14 (v562 : BitVec 32) : BitVec 32 :=
  let c0_i32_221 : BitVec 32 := 0#32
  let v564 : BitVec 1 := Scalar.cmpi .sgt v562 c0_i32_221
  let v565 : BitVec 32 := Scalar.extui v564
  let c0_i32_222 : BitVec 32 := 0#32
  let v566 : BitVec 1 := Scalar.cmpi .slt v562 c0_i32_222
  let v567 : BitVec 32 := Scalar.extui v566
  let v568 : BitVec 32 := Scalar.subi v565 v567
  let c64_i32_220 : BitVec 32 := 64#32
  let c0_i32_223 : BitVec 32 := 0#32
  let v569 : BitVec 1 := Scalar.cmpi .sgt c64_i32_220 c0_i32_223
  let v570 : BitVec 32 := Scalar.extui v569
  let c0_i32_224 : BitVec 32 := 0#32
  let v571 : BitVec 1 := Scalar.cmpi .slt c64_i32_220 c0_i32_224
  let v572 : BitVec 32 := Scalar.extui v571
  let v573 : BitVec 32 := Scalar.subi v570 v572
  let v574 : BitVec 1 := Scalar.cmpi .ne v568 v573
  let v575 : BitVec 32 := Scalar.remsi v562 c64_i32_220
  let c0_i32_225 : BitVec 32 := 0#32
  let v576 : BitVec 1 := Scalar.cmpi .ne v575 c0_i32_225
  let v577 : BitVec 1 := Scalar.andi v574 v576
  let v563 : BitVec 32 := Scalar.divsi v562 c64_i32_220
  let c1_i32_226 : BitVec 32 := 1#32
  let v578 : BitVec 32 := Scalar.subi v563 c1_i32_226
  let v579 : BitVec 32 := Scalar.select v577 v578 v563
  let c64_i32_227 : BitVec 32 := 64#32
  let v580 : BitVec 32 := Scalar.muli v579 c64_i32_227
  v580

def k0_off28 (v562 : BitVec 32) : Fin 2 → Nat :=
  let c0_i32_221 : BitVec 32 := 0#32
  let v564 : BitVec 1 := Scalar.cmpi .sgt v562 c0_i32_221
  let v565 : BitVec 32 := Scalar.extui v564
  let c0_i32_222 : BitVec 32 := 0#32
  let v566 : BitVec 1 := Scalar.cmpi .slt v562 c0_i32_222
  let v567 : BitVec 32 := Scalar.extui v566
  let v568 : BitVec 32 := Scalar.subi v565 v567
  let c64_i32_220 : BitVec 32 := 64#32
  let c0_i32_223 : BitVec 32 := 0#32
  let v569 : BitVec 1 := Scalar.cmpi .sgt c64_i32_220 c0_i32_223
  let v570 : BitVec 32 := Scalar.extui v569
  let c0_i32_224 : BitVec 32 := 0#32
  let v571 : BitVec 1 := Scalar.cmpi .slt c64_i32_220 c0_i32_224
  let v572 : BitVec 32 := Scalar.extui v571
  let v573 : BitVec 32 := Scalar.subi v570 v572
  let v574 : BitVec 1 := Scalar.cmpi .ne v568 v573
  let v575 : BitVec 32 := Scalar.remsi v562 c64_i32_220
  let c0_i32_225 : BitVec 32 := 0#32
  let v576 : BitVec 1 := Scalar.cmpi .ne v575 c0_i32_225
  let v577 : BitVec 1 := Scalar.andi v574 v576
  let v563 : BitVec 32 := Scalar.divsi v562 c64_i32_220
  let c1_i32_226 : BitVec 32 := 1#32
  let v578 : BitVec 32 := Scalar.subi v563 c1_i32_226
  let v579 : BitVec 32 := Scalar.select v577 v578 v563
  let c64_i32_227 : BitVec 32 := 64#32
  let v580 : BitVec 32 := Scalar.muli v579 c64_i32_227
  let v581 : BitVec 32 := v580
  let v582 : Index := Scalar.indexCast v581
  let c0_228 : Index := 0#32
  ![v582.toNat, 0]

def k0_chk14 (v562 : BitVec 32) : Prop :=
  (64 ∣ (k0_mult14 v562).toNat) ∧
  (∀ a, (k0_off28 v562) a + S64x256.size a ≤ S100000x256.size a)
theorem k0_mult14_dvd : ∀ (v562 : BitVec 32) (k0_hw14 : k0_chk14 v562), 64 ∣ (k0_mult14 v562).toNat := fun v562 k0_hw14 => k0_hw14.1
theorem k0_off28_inb : ∀ (v562 : BitVec 32) (k0_hw14 : k0_chk14 v562), ∀ a, (k0_off28 v562) a + S64x256.size a ≤ S100000x256.size a := fun v562 k0_hw14 => k0_hw14.2

def k0_off29 (i : grid0.Coords) : Fin 1 → Nat :=
  let arg0 : BitVec 32 := BitVec.ofNat 32 (i 0).val
  let c32_i32 : BitVec 32 := 32#32
  let v0 : BitVec 32 := Scalar.muli arg0 c32_i32
  let c14_i32 : BitVec 32 := 14#32
  let v603 : BitVec 32 := Scalar.addi v0 c14_i32
  let v604 : Index := Scalar.indexCast v603
  ![v604.toNat]
def k0_mult15 (v605 : BitVec 32) : BitVec 32 :=
  let c0_i32_238 : BitVec 32 := 0#32
  let v607 : BitVec 1 := Scalar.cmpi .sgt v605 c0_i32_238
  let v608 : BitVec 32 := Scalar.extui v607
  let c0_i32_239 : BitVec 32 := 0#32
  let v609 : BitVec 1 := Scalar.cmpi .slt v605 c0_i32_239
  let v610 : BitVec 32 := Scalar.extui v609
  let v611 : BitVec 32 := Scalar.subi v608 v610
  let c64_i32_237 : BitVec 32 := 64#32
  let c0_i32_240 : BitVec 32 := 0#32
  let v612 : BitVec 1 := Scalar.cmpi .sgt c64_i32_237 c0_i32_240
  let v613 : BitVec 32 := Scalar.extui v612
  let c0_i32_241 : BitVec 32 := 0#32
  let v614 : BitVec 1 := Scalar.cmpi .slt c64_i32_237 c0_i32_241
  let v615 : BitVec 32 := Scalar.extui v614
  let v616 : BitVec 32 := Scalar.subi v613 v615
  let v617 : BitVec 1 := Scalar.cmpi .ne v611 v616
  let v618 : BitVec 32 := Scalar.remsi v605 c64_i32_237
  let c0_i32_242 : BitVec 32 := 0#32
  let v619 : BitVec 1 := Scalar.cmpi .ne v618 c0_i32_242
  let v620 : BitVec 1 := Scalar.andi v617 v619
  let v606 : BitVec 32 := Scalar.divsi v605 c64_i32_237
  let c1_i32_243 : BitVec 32 := 1#32
  let v621 : BitVec 32 := Scalar.subi v606 c1_i32_243
  let v622 : BitVec 32 := Scalar.select v620 v621 v606
  let c64_i32_244 : BitVec 32 := 64#32
  let v623 : BitVec 32 := Scalar.muli v622 c64_i32_244
  v623

def k0_off30 (v605 : BitVec 32) : Fin 2 → Nat :=
  let c0_i32_238 : BitVec 32 := 0#32
  let v607 : BitVec 1 := Scalar.cmpi .sgt v605 c0_i32_238
  let v608 : BitVec 32 := Scalar.extui v607
  let c0_i32_239 : BitVec 32 := 0#32
  let v609 : BitVec 1 := Scalar.cmpi .slt v605 c0_i32_239
  let v610 : BitVec 32 := Scalar.extui v609
  let v611 : BitVec 32 := Scalar.subi v608 v610
  let c64_i32_237 : BitVec 32 := 64#32
  let c0_i32_240 : BitVec 32 := 0#32
  let v612 : BitVec 1 := Scalar.cmpi .sgt c64_i32_237 c0_i32_240
  let v613 : BitVec 32 := Scalar.extui v612
  let c0_i32_241 : BitVec 32 := 0#32
  let v614 : BitVec 1 := Scalar.cmpi .slt c64_i32_237 c0_i32_241
  let v615 : BitVec 32 := Scalar.extui v614
  let v616 : BitVec 32 := Scalar.subi v613 v615
  let v617 : BitVec 1 := Scalar.cmpi .ne v611 v616
  let v618 : BitVec 32 := Scalar.remsi v605 c64_i32_237
  let c0_i32_242 : BitVec 32 := 0#32
  let v619 : BitVec 1 := Scalar.cmpi .ne v618 c0_i32_242
  let v620 : BitVec 1 := Scalar.andi v617 v619
  let v606 : BitVec 32 := Scalar.divsi v605 c64_i32_237
  let c1_i32_243 : BitVec 32 := 1#32
  let v621 : BitVec 32 := Scalar.subi v606 c1_i32_243
  let v622 : BitVec 32 := Scalar.select v620 v621 v606
  let c64_i32_244 : BitVec 32 := 64#32
  let v623 : BitVec 32 := Scalar.muli v622 c64_i32_244
  let v624 : BitVec 32 := v623
  let v625 : Index := Scalar.indexCast v624
  let c0_245 : Index := 0#32
  ![v625.toNat, 0]

def k0_chk15 (v605 : BitVec 32) : Prop :=
  (64 ∣ (k0_mult15 v605).toNat) ∧
  (∀ a, (k0_off30 v605) a + S64x256.size a ≤ S100000x256.size a)
theorem k0_mult15_dvd : ∀ (v605 : BitVec 32) (k0_hw15 : k0_chk15 v605), 64 ∣ (k0_mult15 v605).toNat := fun v605 k0_hw15 => k0_hw15.1
theorem k0_off30_inb : ∀ (v605 : BitVec 32) (k0_hw15 : k0_chk15 v605), ∀ a, (k0_off30 v605) a + S64x256.size a ≤ S100000x256.size a := fun v605 k0_hw15 => k0_hw15.2

def k0_off31 (i : grid0.Coords) : Fin 1 → Nat :=
  let arg0 : BitVec 32 := BitVec.ofNat 32 (i 0).val
  let c32_i32 : BitVec 32 := 32#32
  let v0 : BitVec 32 := Scalar.muli arg0 c32_i32
  let c15_i32 : BitVec 32 := 15#32
  let v646 : BitVec 32 := Scalar.addi v0 c15_i32
  let v647 : Index := Scalar.indexCast v646
  ![v647.toNat]
def k0_mult16 (v648 : BitVec 32) : BitVec 32 :=
  let c0_i32_255 : BitVec 32 := 0#32
  let v650 : BitVec 1 := Scalar.cmpi .sgt v648 c0_i32_255
  let v651 : BitVec 32 := Scalar.extui v650
  let c0_i32_256 : BitVec 32 := 0#32
  let v652 : BitVec 1 := Scalar.cmpi .slt v648 c0_i32_256
  let v653 : BitVec 32 := Scalar.extui v652
  let v654 : BitVec 32 := Scalar.subi v651 v653
  let c64_i32_254 : BitVec 32 := 64#32
  let c0_i32_257 : BitVec 32 := 0#32
  let v655 : BitVec 1 := Scalar.cmpi .sgt c64_i32_254 c0_i32_257
  let v656 : BitVec 32 := Scalar.extui v655
  let c0_i32_258 : BitVec 32 := 0#32
  let v657 : BitVec 1 := Scalar.cmpi .slt c64_i32_254 c0_i32_258
  let v658 : BitVec 32 := Scalar.extui v657
  let v659 : BitVec 32 := Scalar.subi v656 v658
  let v660 : BitVec 1 := Scalar.cmpi .ne v654 v659
  let v661 : BitVec 32 := Scalar.remsi v648 c64_i32_254
  let c0_i32_259 : BitVec 32 := 0#32
  let v662 : BitVec 1 := Scalar.cmpi .ne v661 c0_i32_259
  let v663 : BitVec 1 := Scalar.andi v660 v662
  let v649 : BitVec 32 := Scalar.divsi v648 c64_i32_254
  let c1_i32_260 : BitVec 32 := 1#32
  let v664 : BitVec 32 := Scalar.subi v649 c1_i32_260
  let v665 : BitVec 32 := Scalar.select v663 v664 v649
  let c64_i32_261 : BitVec 32 := 64#32
  let v666 : BitVec 32 := Scalar.muli v665 c64_i32_261
  v666

def k0_off32 (v648 : BitVec 32) : Fin 2 → Nat :=
  let c0_i32_255 : BitVec 32 := 0#32
  let v650 : BitVec 1 := Scalar.cmpi .sgt v648 c0_i32_255
  let v651 : BitVec 32 := Scalar.extui v650
  let c0_i32_256 : BitVec 32 := 0#32
  let v652 : BitVec 1 := Scalar.cmpi .slt v648 c0_i32_256
  let v653 : BitVec 32 := Scalar.extui v652
  let v654 : BitVec 32 := Scalar.subi v651 v653
  let c64_i32_254 : BitVec 32 := 64#32
  let c0_i32_257 : BitVec 32 := 0#32
  let v655 : BitVec 1 := Scalar.cmpi .sgt c64_i32_254 c0_i32_257
  let v656 : BitVec 32 := Scalar.extui v655
  let c0_i32_258 : BitVec 32 := 0#32
  let v657 : BitVec 1 := Scalar.cmpi .slt c64_i32_254 c0_i32_258
  let v658 : BitVec 32 := Scalar.extui v657
  let v659 : BitVec 32 := Scalar.subi v656 v658
  let v660 : BitVec 1 := Scalar.cmpi .ne v654 v659
  let v661 : BitVec 32 := Scalar.remsi v648 c64_i32_254
  let c0_i32_259 : BitVec 32 := 0#32
  let v662 : BitVec 1 := Scalar.cmpi .ne v661 c0_i32_259
  let v663 : BitVec 1 := Scalar.andi v660 v662
  let v649 : BitVec 32 := Scalar.divsi v648 c64_i32_254
  let c1_i32_260 : BitVec 32 := 1#32
  let v664 : BitVec 32 := Scalar.subi v649 c1_i32_260
  let v665 : BitVec 32 := Scalar.select v663 v664 v649
  let c64_i32_261 : BitVec 32 := 64#32
  let v666 : BitVec 32 := Scalar.muli v665 c64_i32_261
  let v667 : BitVec 32 := v666
  let v668 : Index := Scalar.indexCast v667
  let c0_262 : Index := 0#32
  ![v668.toNat, 0]

def k0_chk16 (v648 : BitVec 32) : Prop :=
  (64 ∣ (k0_mult16 v648).toNat) ∧
  (∀ a, (k0_off32 v648) a + S64x256.size a ≤ S100000x256.size a)
theorem k0_mult16_dvd : ∀ (v648 : BitVec 32) (k0_hw16 : k0_chk16 v648), 64 ∣ (k0_mult16 v648).toNat := fun v648 k0_hw16 => k0_hw16.1
theorem k0_off32_inb : ∀ (v648 : BitVec 32) (k0_hw16 : k0_chk16 v648), ∀ a, (k0_off32 v648) a + S64x256.size a ≤ S100000x256.size a := fun v648 k0_hw16 => k0_hw16.2

def k0_off33 (i : grid0.Coords) : Fin 1 → Nat :=
  let arg0 : BitVec 32 := BitVec.ofNat 32 (i 0).val
  let c32_i32 : BitVec 32 := 32#32
  let v0 : BitVec 32 := Scalar.muli arg0 c32_i32
  let c16_i32 : BitVec 32 := 16#32
  let v689 : BitVec 32 := Scalar.addi v0 c16_i32
  let v690 : Index := Scalar.indexCast v689
  ![v690.toNat]
def k0_mult17 (v691 : BitVec 32) : BitVec 32 :=
  let c0_i32_272 : BitVec 32 := 0#32
  let v693 : BitVec 1 := Scalar.cmpi .sgt v691 c0_i32_272
  let v694 : BitVec 32 := Scalar.extui v693
  let c0_i32_273 : BitVec 32 := 0#32
  let v695 : BitVec 1 := Scalar.cmpi .slt v691 c0_i32_273
  let v696 : BitVec 32 := Scalar.extui v695
  let v697 : BitVec 32 := Scalar.subi v694 v696
  let c64_i32_271 : BitVec 32 := 64#32
  let c0_i32_274 : BitVec 32 := 0#32
  let v698 : BitVec 1 := Scalar.cmpi .sgt c64_i32_271 c0_i32_274
  let v699 : BitVec 32 := Scalar.extui v698
  let c0_i32_275 : BitVec 32 := 0#32
  let v700 : BitVec 1 := Scalar.cmpi .slt c64_i32_271 c0_i32_275
  let v701 : BitVec 32 := Scalar.extui v700
  let v702 : BitVec 32 := Scalar.subi v699 v701
  let v703 : BitVec 1 := Scalar.cmpi .ne v697 v702
  let v704 : BitVec 32 := Scalar.remsi v691 c64_i32_271
  let c0_i32_276 : BitVec 32 := 0#32
  let v705 : BitVec 1 := Scalar.cmpi .ne v704 c0_i32_276
  let v706 : BitVec 1 := Scalar.andi v703 v705
  let v692 : BitVec 32 := Scalar.divsi v691 c64_i32_271
  let c1_i32_277 : BitVec 32 := 1#32
  let v707 : BitVec 32 := Scalar.subi v692 c1_i32_277
  let v708 : BitVec 32 := Scalar.select v706 v707 v692
  let c64_i32_278 : BitVec 32 := 64#32
  let v709 : BitVec 32 := Scalar.muli v708 c64_i32_278
  v709

def k0_off34 (v691 : BitVec 32) : Fin 2 → Nat :=
  let c0_i32_272 : BitVec 32 := 0#32
  let v693 : BitVec 1 := Scalar.cmpi .sgt v691 c0_i32_272
  let v694 : BitVec 32 := Scalar.extui v693
  let c0_i32_273 : BitVec 32 := 0#32
  let v695 : BitVec 1 := Scalar.cmpi .slt v691 c0_i32_273
  let v696 : BitVec 32 := Scalar.extui v695
  let v697 : BitVec 32 := Scalar.subi v694 v696
  let c64_i32_271 : BitVec 32 := 64#32
  let c0_i32_274 : BitVec 32 := 0#32
  let v698 : BitVec 1 := Scalar.cmpi .sgt c64_i32_271 c0_i32_274
  let v699 : BitVec 32 := Scalar.extui v698
  let c0_i32_275 : BitVec 32 := 0#32
  let v700 : BitVec 1 := Scalar.cmpi .slt c64_i32_271 c0_i32_275
  let v701 : BitVec 32 := Scalar.extui v700
  let v702 : BitVec 32 := Scalar.subi v699 v701
  let v703 : BitVec 1 := Scalar.cmpi .ne v697 v702
  let v704 : BitVec 32 := Scalar.remsi v691 c64_i32_271
  let c0_i32_276 : BitVec 32 := 0#32
  let v705 : BitVec 1 := Scalar.cmpi .ne v704 c0_i32_276
  let v706 : BitVec 1 := Scalar.andi v703 v705
  let v692 : BitVec 32 := Scalar.divsi v691 c64_i32_271
  let c1_i32_277 : BitVec 32 := 1#32
  let v707 : BitVec 32 := Scalar.subi v692 c1_i32_277
  let v708 : BitVec 32 := Scalar.select v706 v707 v692
  let c64_i32_278 : BitVec 32 := 64#32
  let v709 : BitVec 32 := Scalar.muli v708 c64_i32_278
  let v710 : BitVec 32 := v709
  let v711 : Index := Scalar.indexCast v710
  let c0_279 : Index := 0#32
  ![v711.toNat, 0]

def k0_chk17 (v691 : BitVec 32) : Prop :=
  (64 ∣ (k0_mult17 v691).toNat) ∧
  (∀ a, (k0_off34 v691) a + S64x256.size a ≤ S100000x256.size a)
theorem k0_mult17_dvd : ∀ (v691 : BitVec 32) (k0_hw17 : k0_chk17 v691), 64 ∣ (k0_mult17 v691).toNat := fun v691 k0_hw17 => k0_hw17.1
theorem k0_off34_inb : ∀ (v691 : BitVec 32) (k0_hw17 : k0_chk17 v691), ∀ a, (k0_off34 v691) a + S64x256.size a ≤ S100000x256.size a := fun v691 k0_hw17 => k0_hw17.2

def k0_off35 (i : grid0.Coords) : Fin 1 → Nat :=
  let arg0 : BitVec 32 := BitVec.ofNat 32 (i 0).val
  let c32_i32 : BitVec 32 := 32#32
  let v0 : BitVec 32 := Scalar.muli arg0 c32_i32
  let c17_i32 : BitVec 32 := 17#32
  let v732 : BitVec 32 := Scalar.addi v0 c17_i32
  let v733 : Index := Scalar.indexCast v732
  ![v733.toNat]
def k0_mult18 (v734 : BitVec 32) : BitVec 32 :=
  let c0_i32_289 : BitVec 32 := 0#32
  let v736 : BitVec 1 := Scalar.cmpi .sgt v734 c0_i32_289
  let v737 : BitVec 32 := Scalar.extui v736
  let c0_i32_290 : BitVec 32 := 0#32
  let v738 : BitVec 1 := Scalar.cmpi .slt v734 c0_i32_290
  let v739 : BitVec 32 := Scalar.extui v738
  let v740 : BitVec 32 := Scalar.subi v737 v739
  let c64_i32_288 : BitVec 32 := 64#32
  let c0_i32_291 : BitVec 32 := 0#32
  let v741 : BitVec 1 := Scalar.cmpi .sgt c64_i32_288 c0_i32_291
  let v742 : BitVec 32 := Scalar.extui v741
  let c0_i32_292 : BitVec 32 := 0#32
  let v743 : BitVec 1 := Scalar.cmpi .slt c64_i32_288 c0_i32_292
  let v744 : BitVec 32 := Scalar.extui v743
  let v745 : BitVec 32 := Scalar.subi v742 v744
  let v746 : BitVec 1 := Scalar.cmpi .ne v740 v745
  let v747 : BitVec 32 := Scalar.remsi v734 c64_i32_288
  let c0_i32_293 : BitVec 32 := 0#32
  let v748 : BitVec 1 := Scalar.cmpi .ne v747 c0_i32_293
  let v749 : BitVec 1 := Scalar.andi v746 v748
  let v735 : BitVec 32 := Scalar.divsi v734 c64_i32_288
  let c1_i32_294 : BitVec 32 := 1#32
  let v750 : BitVec 32 := Scalar.subi v735 c1_i32_294
  let v751 : BitVec 32 := Scalar.select v749 v750 v735
  let c64_i32_295 : BitVec 32 := 64#32
  let v752 : BitVec 32 := Scalar.muli v751 c64_i32_295
  v752

def k0_off36 (v734 : BitVec 32) : Fin 2 → Nat :=
  let c0_i32_289 : BitVec 32 := 0#32
  let v736 : BitVec 1 := Scalar.cmpi .sgt v734 c0_i32_289
  let v737 : BitVec 32 := Scalar.extui v736
  let c0_i32_290 : BitVec 32 := 0#32
  let v738 : BitVec 1 := Scalar.cmpi .slt v734 c0_i32_290
  let v739 : BitVec 32 := Scalar.extui v738
  let v740 : BitVec 32 := Scalar.subi v737 v739
  let c64_i32_288 : BitVec 32 := 64#32
  let c0_i32_291 : BitVec 32 := 0#32
  let v741 : BitVec 1 := Scalar.cmpi .sgt c64_i32_288 c0_i32_291
  let v742 : BitVec 32 := Scalar.extui v741
  let c0_i32_292 : BitVec 32 := 0#32
  let v743 : BitVec 1 := Scalar.cmpi .slt c64_i32_288 c0_i32_292
  let v744 : BitVec 32 := Scalar.extui v743
  let v745 : BitVec 32 := Scalar.subi v742 v744
  let v746 : BitVec 1 := Scalar.cmpi .ne v740 v745
  let v747 : BitVec 32 := Scalar.remsi v734 c64_i32_288
  let c0_i32_293 : BitVec 32 := 0#32
  let v748 : BitVec 1 := Scalar.cmpi .ne v747 c0_i32_293
  let v749 : BitVec 1 := Scalar.andi v746 v748
  let v735 : BitVec 32 := Scalar.divsi v734 c64_i32_288
  let c1_i32_294 : BitVec 32 := 1#32
  let v750 : BitVec 32 := Scalar.subi v735 c1_i32_294
  let v751 : BitVec 32 := Scalar.select v749 v750 v735
  let c64_i32_295 : BitVec 32 := 64#32
  let v752 : BitVec 32 := Scalar.muli v751 c64_i32_295
  let v753 : BitVec 32 := v752
  let v754 : Index := Scalar.indexCast v753
  let c0_296 : Index := 0#32
  ![v754.toNat, 0]

def k0_chk18 (v734 : BitVec 32) : Prop :=
  (64 ∣ (k0_mult18 v734).toNat) ∧
  (∀ a, (k0_off36 v734) a + S64x256.size a ≤ S100000x256.size a)
theorem k0_mult18_dvd : ∀ (v734 : BitVec 32) (k0_hw18 : k0_chk18 v734), 64 ∣ (k0_mult18 v734).toNat := fun v734 k0_hw18 => k0_hw18.1
theorem k0_off36_inb : ∀ (v734 : BitVec 32) (k0_hw18 : k0_chk18 v734), ∀ a, (k0_off36 v734) a + S64x256.size a ≤ S100000x256.size a := fun v734 k0_hw18 => k0_hw18.2

def k0_off37 (i : grid0.Coords) : Fin 1 → Nat :=
  let arg0 : BitVec 32 := BitVec.ofNat 32 (i 0).val
  let c32_i32 : BitVec 32 := 32#32
  let v0 : BitVec 32 := Scalar.muli arg0 c32_i32
  let c18_i32 : BitVec 32 := 18#32
  let v775 : BitVec 32 := Scalar.addi v0 c18_i32
  let v776 : Index := Scalar.indexCast v775
  ![v776.toNat]
def k0_mult19 (v777 : BitVec 32) : BitVec 32 :=
  let c0_i32_306 : BitVec 32 := 0#32
  let v779 : BitVec 1 := Scalar.cmpi .sgt v777 c0_i32_306
  let v780 : BitVec 32 := Scalar.extui v779
  let c0_i32_307 : BitVec 32 := 0#32
  let v781 : BitVec 1 := Scalar.cmpi .slt v777 c0_i32_307
  let v782 : BitVec 32 := Scalar.extui v781
  let v783 : BitVec 32 := Scalar.subi v780 v782
  let c64_i32_305 : BitVec 32 := 64#32
  let c0_i32_308 : BitVec 32 := 0#32
  let v784 : BitVec 1 := Scalar.cmpi .sgt c64_i32_305 c0_i32_308
  let v785 : BitVec 32 := Scalar.extui v784
  let c0_i32_309 : BitVec 32 := 0#32
  let v786 : BitVec 1 := Scalar.cmpi .slt c64_i32_305 c0_i32_309
  let v787 : BitVec 32 := Scalar.extui v786
  let v788 : BitVec 32 := Scalar.subi v785 v787
  let v789 : BitVec 1 := Scalar.cmpi .ne v783 v788
  let v790 : BitVec 32 := Scalar.remsi v777 c64_i32_305
  let c0_i32_310 : BitVec 32 := 0#32
  let v791 : BitVec 1 := Scalar.cmpi .ne v790 c0_i32_310
  let v792 : BitVec 1 := Scalar.andi v789 v791
  let v778 : BitVec 32 := Scalar.divsi v777 c64_i32_305
  let c1_i32_311 : BitVec 32 := 1#32
  let v793 : BitVec 32 := Scalar.subi v778 c1_i32_311
  let v794 : BitVec 32 := Scalar.select v792 v793 v778
  let c64_i32_312 : BitVec 32 := 64#32
  let v795 : BitVec 32 := Scalar.muli v794 c64_i32_312
  v795

def k0_off38 (v777 : BitVec 32) : Fin 2 → Nat :=
  let c0_i32_306 : BitVec 32 := 0#32
  let v779 : BitVec 1 := Scalar.cmpi .sgt v777 c0_i32_306
  let v780 : BitVec 32 := Scalar.extui v779
  let c0_i32_307 : BitVec 32 := 0#32
  let v781 : BitVec 1 := Scalar.cmpi .slt v777 c0_i32_307
  let v782 : BitVec 32 := Scalar.extui v781
  let v783 : BitVec 32 := Scalar.subi v780 v782
  let c64_i32_305 : BitVec 32 := 64#32
  let c0_i32_308 : BitVec 32 := 0#32
  let v784 : BitVec 1 := Scalar.cmpi .sgt c64_i32_305 c0_i32_308
  let v785 : BitVec 32 := Scalar.extui v784
  let c0_i32_309 : BitVec 32 := 0#32
  let v786 : BitVec 1 := Scalar.cmpi .slt c64_i32_305 c0_i32_309
  let v787 : BitVec 32 := Scalar.extui v786
  let v788 : BitVec 32 := Scalar.subi v785 v787
  let v789 : BitVec 1 := Scalar.cmpi .ne v783 v788
  let v790 : BitVec 32 := Scalar.remsi v777 c64_i32_305
  let c0_i32_310 : BitVec 32 := 0#32
  let v791 : BitVec 1 := Scalar.cmpi .ne v790 c0_i32_310
  let v792 : BitVec 1 := Scalar.andi v789 v791
  let v778 : BitVec 32 := Scalar.divsi v777 c64_i32_305
  let c1_i32_311 : BitVec 32 := 1#32
  let v793 : BitVec 32 := Scalar.subi v778 c1_i32_311
  let v794 : BitVec 32 := Scalar.select v792 v793 v778
  let c64_i32_312 : BitVec 32 := 64#32
  let v795 : BitVec 32 := Scalar.muli v794 c64_i32_312
  let v796 : BitVec 32 := v795
  let v797 : Index := Scalar.indexCast v796
  let c0_313 : Index := 0#32
  ![v797.toNat, 0]

def k0_chk19 (v777 : BitVec 32) : Prop :=
  (64 ∣ (k0_mult19 v777).toNat) ∧
  (∀ a, (k0_off38 v777) a + S64x256.size a ≤ S100000x256.size a)
theorem k0_mult19_dvd : ∀ (v777 : BitVec 32) (k0_hw19 : k0_chk19 v777), 64 ∣ (k0_mult19 v777).toNat := fun v777 k0_hw19 => k0_hw19.1
theorem k0_off38_inb : ∀ (v777 : BitVec 32) (k0_hw19 : k0_chk19 v777), ∀ a, (k0_off38 v777) a + S64x256.size a ≤ S100000x256.size a := fun v777 k0_hw19 => k0_hw19.2

def k0_off39 (i : grid0.Coords) : Fin 1 → Nat :=
  let arg0 : BitVec 32 := BitVec.ofNat 32 (i 0).val
  let c32_i32 : BitVec 32 := 32#32
  let v0 : BitVec 32 := Scalar.muli arg0 c32_i32
  let c19_i32 : BitVec 32 := 19#32
  let v818 : BitVec 32 := Scalar.addi v0 c19_i32
  let v819 : Index := Scalar.indexCast v818
  ![v819.toNat]
def k0_mult20 (v820 : BitVec 32) : BitVec 32 :=
  let c0_i32_323 : BitVec 32 := 0#32
  let v822 : BitVec 1 := Scalar.cmpi .sgt v820 c0_i32_323
  let v823 : BitVec 32 := Scalar.extui v822
  let c0_i32_324 : BitVec 32 := 0#32
  let v824 : BitVec 1 := Scalar.cmpi .slt v820 c0_i32_324
  let v825 : BitVec 32 := Scalar.extui v824
  let v826 : BitVec 32 := Scalar.subi v823 v825
  let c64_i32_322 : BitVec 32 := 64#32
  let c0_i32_325 : BitVec 32 := 0#32
  let v827 : BitVec 1 := Scalar.cmpi .sgt c64_i32_322 c0_i32_325
  let v828 : BitVec 32 := Scalar.extui v827
  let c0_i32_326 : BitVec 32 := 0#32
  let v829 : BitVec 1 := Scalar.cmpi .slt c64_i32_322 c0_i32_326
  let v830 : BitVec 32 := Scalar.extui v829
  let v831 : BitVec 32 := Scalar.subi v828 v830
  let v832 : BitVec 1 := Scalar.cmpi .ne v826 v831
  let v833 : BitVec 32 := Scalar.remsi v820 c64_i32_322
  let c0_i32_327 : BitVec 32 := 0#32
  let v834 : BitVec 1 := Scalar.cmpi .ne v833 c0_i32_327
  let v835 : BitVec 1 := Scalar.andi v832 v834
  let v821 : BitVec 32 := Scalar.divsi v820 c64_i32_322
  let c1_i32_328 : BitVec 32 := 1#32
  let v836 : BitVec 32 := Scalar.subi v821 c1_i32_328
  let v837 : BitVec 32 := Scalar.select v835 v836 v821
  let c64_i32_329 : BitVec 32 := 64#32
  let v838 : BitVec 32 := Scalar.muli v837 c64_i32_329
  v838

def k0_off40 (v820 : BitVec 32) : Fin 2 → Nat :=
  let c0_i32_323 : BitVec 32 := 0#32
  let v822 : BitVec 1 := Scalar.cmpi .sgt v820 c0_i32_323
  let v823 : BitVec 32 := Scalar.extui v822
  let c0_i32_324 : BitVec 32 := 0#32
  let v824 : BitVec 1 := Scalar.cmpi .slt v820 c0_i32_324
  let v825 : BitVec 32 := Scalar.extui v824
  let v826 : BitVec 32 := Scalar.subi v823 v825
  let c64_i32_322 : BitVec 32 := 64#32
  let c0_i32_325 : BitVec 32 := 0#32
  let v827 : BitVec 1 := Scalar.cmpi .sgt c64_i32_322 c0_i32_325
  let v828 : BitVec 32 := Scalar.extui v827
  let c0_i32_326 : BitVec 32 := 0#32
  let v829 : BitVec 1 := Scalar.cmpi .slt c64_i32_322 c0_i32_326
  let v830 : BitVec 32 := Scalar.extui v829
  let v831 : BitVec 32 := Scalar.subi v828 v830
  let v832 : BitVec 1 := Scalar.cmpi .ne v826 v831
  let v833 : BitVec 32 := Scalar.remsi v820 c64_i32_322
  let c0_i32_327 : BitVec 32 := 0#32
  let v834 : BitVec 1 := Scalar.cmpi .ne v833 c0_i32_327
  let v835 : BitVec 1 := Scalar.andi v832 v834
  let v821 : BitVec 32 := Scalar.divsi v820 c64_i32_322
  let c1_i32_328 : BitVec 32 := 1#32
  let v836 : BitVec 32 := Scalar.subi v821 c1_i32_328
  let v837 : BitVec 32 := Scalar.select v835 v836 v821
  let c64_i32_329 : BitVec 32 := 64#32
  let v838 : BitVec 32 := Scalar.muli v837 c64_i32_329
  let v839 : BitVec 32 := v838
  let v840 : Index := Scalar.indexCast v839
  let c0_330 : Index := 0#32
  ![v840.toNat, 0]

def k0_chk20 (v820 : BitVec 32) : Prop :=
  (64 ∣ (k0_mult20 v820).toNat) ∧
  (∀ a, (k0_off40 v820) a + S64x256.size a ≤ S100000x256.size a)
theorem k0_mult20_dvd : ∀ (v820 : BitVec 32) (k0_hw20 : k0_chk20 v820), 64 ∣ (k0_mult20 v820).toNat := fun v820 k0_hw20 => k0_hw20.1
theorem k0_off40_inb : ∀ (v820 : BitVec 32) (k0_hw20 : k0_chk20 v820), ∀ a, (k0_off40 v820) a + S64x256.size a ≤ S100000x256.size a := fun v820 k0_hw20 => k0_hw20.2

def k0_off41 (i : grid0.Coords) : Fin 1 → Nat :=
  let arg0 : BitVec 32 := BitVec.ofNat 32 (i 0).val
  let c32_i32 : BitVec 32 := 32#32
  let v0 : BitVec 32 := Scalar.muli arg0 c32_i32
  let c20_i32 : BitVec 32 := 20#32
  let v861 : BitVec 32 := Scalar.addi v0 c20_i32
  let v862 : Index := Scalar.indexCast v861
  ![v862.toNat]
def k0_mult21 (v863 : BitVec 32) : BitVec 32 :=
  let c0_i32_340 : BitVec 32 := 0#32
  let v865 : BitVec 1 := Scalar.cmpi .sgt v863 c0_i32_340
  let v866 : BitVec 32 := Scalar.extui v865
  let c0_i32_341 : BitVec 32 := 0#32
  let v867 : BitVec 1 := Scalar.cmpi .slt v863 c0_i32_341
  let v868 : BitVec 32 := Scalar.extui v867
  let v869 : BitVec 32 := Scalar.subi v866 v868
  let c64_i32_339 : BitVec 32 := 64#32
  let c0_i32_342 : BitVec 32 := 0#32
  let v870 : BitVec 1 := Scalar.cmpi .sgt c64_i32_339 c0_i32_342
  let v871 : BitVec 32 := Scalar.extui v870
  let c0_i32_343 : BitVec 32 := 0#32
  let v872 : BitVec 1 := Scalar.cmpi .slt c64_i32_339 c0_i32_343
  let v873 : BitVec 32 := Scalar.extui v872
  let v874 : BitVec 32 := Scalar.subi v871 v873
  let v875 : BitVec 1 := Scalar.cmpi .ne v869 v874
  let v876 : BitVec 32 := Scalar.remsi v863 c64_i32_339
  let c0_i32_344 : BitVec 32 := 0#32
  let v877 : BitVec 1 := Scalar.cmpi .ne v876 c0_i32_344
  let v878 : BitVec 1 := Scalar.andi v875 v877
  let v864 : BitVec 32 := Scalar.divsi v863 c64_i32_339
  let c1_i32_345 : BitVec 32 := 1#32
  let v879 : BitVec 32 := Scalar.subi v864 c1_i32_345
  let v880 : BitVec 32 := Scalar.select v878 v879 v864
  let c64_i32_346 : BitVec 32 := 64#32
  let v881 : BitVec 32 := Scalar.muli v880 c64_i32_346
  v881

def k0_off42 (v863 : BitVec 32) : Fin 2 → Nat :=
  let c0_i32_340 : BitVec 32 := 0#32
  let v865 : BitVec 1 := Scalar.cmpi .sgt v863 c0_i32_340
  let v866 : BitVec 32 := Scalar.extui v865
  let c0_i32_341 : BitVec 32 := 0#32
  let v867 : BitVec 1 := Scalar.cmpi .slt v863 c0_i32_341
  let v868 : BitVec 32 := Scalar.extui v867
  let v869 : BitVec 32 := Scalar.subi v866 v868
  let c64_i32_339 : BitVec 32 := 64#32
  let c0_i32_342 : BitVec 32 := 0#32
  let v870 : BitVec 1 := Scalar.cmpi .sgt c64_i32_339 c0_i32_342
  let v871 : BitVec 32 := Scalar.extui v870
  let c0_i32_343 : BitVec 32 := 0#32
  let v872 : BitVec 1 := Scalar.cmpi .slt c64_i32_339 c0_i32_343
  let v873 : BitVec 32 := Scalar.extui v872
  let v874 : BitVec 32 := Scalar.subi v871 v873
  let v875 : BitVec 1 := Scalar.cmpi .ne v869 v874
  let v876 : BitVec 32 := Scalar.remsi v863 c64_i32_339
  let c0_i32_344 : BitVec 32 := 0#32
  let v877 : BitVec 1 := Scalar.cmpi .ne v876 c0_i32_344
  let v878 : BitVec 1 := Scalar.andi v875 v877
  let v864 : BitVec 32 := Scalar.divsi v863 c64_i32_339
  let c1_i32_345 : BitVec 32 := 1#32
  let v879 : BitVec 32 := Scalar.subi v864 c1_i32_345
  let v880 : BitVec 32 := Scalar.select v878 v879 v864
  let c64_i32_346 : BitVec 32 := 64#32
  let v881 : BitVec 32 := Scalar.muli v880 c64_i32_346
  let v882 : BitVec 32 := v881
  let v883 : Index := Scalar.indexCast v882
  let c0_347 : Index := 0#32
  ![v883.toNat, 0]

def k0_chk21 (v863 : BitVec 32) : Prop :=
  (64 ∣ (k0_mult21 v863).toNat) ∧
  (∀ a, (k0_off42 v863) a + S64x256.size a ≤ S100000x256.size a)
theorem k0_mult21_dvd : ∀ (v863 : BitVec 32) (k0_hw21 : k0_chk21 v863), 64 ∣ (k0_mult21 v863).toNat := fun v863 k0_hw21 => k0_hw21.1
theorem k0_off42_inb : ∀ (v863 : BitVec 32) (k0_hw21 : k0_chk21 v863), ∀ a, (k0_off42 v863) a + S64x256.size a ≤ S100000x256.size a := fun v863 k0_hw21 => k0_hw21.2

def k0_off43 (i : grid0.Coords) : Fin 1 → Nat :=
  let arg0 : BitVec 32 := BitVec.ofNat 32 (i 0).val
  let c32_i32 : BitVec 32 := 32#32
  let v0 : BitVec 32 := Scalar.muli arg0 c32_i32
  let c21_i32 : BitVec 32 := 21#32
  let v904 : BitVec 32 := Scalar.addi v0 c21_i32
  let v905 : Index := Scalar.indexCast v904
  ![v905.toNat]
def k0_mult22 (v906 : BitVec 32) : BitVec 32 :=
  let c0_i32_357 : BitVec 32 := 0#32
  let v908 : BitVec 1 := Scalar.cmpi .sgt v906 c0_i32_357
  let v909 : BitVec 32 := Scalar.extui v908
  let c0_i32_358 : BitVec 32 := 0#32
  let v910 : BitVec 1 := Scalar.cmpi .slt v906 c0_i32_358
  let v911 : BitVec 32 := Scalar.extui v910
  let v912 : BitVec 32 := Scalar.subi v909 v911
  let c64_i32_356 : BitVec 32 := 64#32
  let c0_i32_359 : BitVec 32 := 0#32
  let v913 : BitVec 1 := Scalar.cmpi .sgt c64_i32_356 c0_i32_359
  let v914 : BitVec 32 := Scalar.extui v913
  let c0_i32_360 : BitVec 32 := 0#32
  let v915 : BitVec 1 := Scalar.cmpi .slt c64_i32_356 c0_i32_360
  let v916 : BitVec 32 := Scalar.extui v915
  let v917 : BitVec 32 := Scalar.subi v914 v916
  let v918 : BitVec 1 := Scalar.cmpi .ne v912 v917
  let v919 : BitVec 32 := Scalar.remsi v906 c64_i32_356
  let c0_i32_361 : BitVec 32 := 0#32
  let v920 : BitVec 1 := Scalar.cmpi .ne v919 c0_i32_361
  let v921 : BitVec 1 := Scalar.andi v918 v920
  let v907 : BitVec 32 := Scalar.divsi v906 c64_i32_356
  let c1_i32_362 : BitVec 32 := 1#32
  let v922 : BitVec 32 := Scalar.subi v907 c1_i32_362
  let v923 : BitVec 32 := Scalar.select v921 v922 v907
  let c64_i32_363 : BitVec 32 := 64#32
  let v924 : BitVec 32 := Scalar.muli v923 c64_i32_363
  v924

def k0_off44 (v906 : BitVec 32) : Fin 2 → Nat :=
  let c0_i32_357 : BitVec 32 := 0#32
  let v908 : BitVec 1 := Scalar.cmpi .sgt v906 c0_i32_357
  let v909 : BitVec 32 := Scalar.extui v908
  let c0_i32_358 : BitVec 32 := 0#32
  let v910 : BitVec 1 := Scalar.cmpi .slt v906 c0_i32_358
  let v911 : BitVec 32 := Scalar.extui v910
  let v912 : BitVec 32 := Scalar.subi v909 v911
  let c64_i32_356 : BitVec 32 := 64#32
  let c0_i32_359 : BitVec 32 := 0#32
  let v913 : BitVec 1 := Scalar.cmpi .sgt c64_i32_356 c0_i32_359
  let v914 : BitVec 32 := Scalar.extui v913
  let c0_i32_360 : BitVec 32 := 0#32
  let v915 : BitVec 1 := Scalar.cmpi .slt c64_i32_356 c0_i32_360
  let v916 : BitVec 32 := Scalar.extui v915
  let v917 : BitVec 32 := Scalar.subi v914 v916
  let v918 : BitVec 1 := Scalar.cmpi .ne v912 v917
  let v919 : BitVec 32 := Scalar.remsi v906 c64_i32_356
  let c0_i32_361 : BitVec 32 := 0#32
  let v920 : BitVec 1 := Scalar.cmpi .ne v919 c0_i32_361
  let v921 : BitVec 1 := Scalar.andi v918 v920
  let v907 : BitVec 32 := Scalar.divsi v906 c64_i32_356
  let c1_i32_362 : BitVec 32 := 1#32
  let v922 : BitVec 32 := Scalar.subi v907 c1_i32_362
  let v923 : BitVec 32 := Scalar.select v921 v922 v907
  let c64_i32_363 : BitVec 32 := 64#32
  let v924 : BitVec 32 := Scalar.muli v923 c64_i32_363
  let v925 : BitVec 32 := v924
  let v926 : Index := Scalar.indexCast v925
  let c0_364 : Index := 0#32
  ![v926.toNat, 0]

def k0_chk22 (v906 : BitVec 32) : Prop :=
  (64 ∣ (k0_mult22 v906).toNat) ∧
  (∀ a, (k0_off44 v906) a + S64x256.size a ≤ S100000x256.size a)
theorem k0_mult22_dvd : ∀ (v906 : BitVec 32) (k0_hw22 : k0_chk22 v906), 64 ∣ (k0_mult22 v906).toNat := fun v906 k0_hw22 => k0_hw22.1
theorem k0_off44_inb : ∀ (v906 : BitVec 32) (k0_hw22 : k0_chk22 v906), ∀ a, (k0_off44 v906) a + S64x256.size a ≤ S100000x256.size a := fun v906 k0_hw22 => k0_hw22.2

def k0_off45 (i : grid0.Coords) : Fin 1 → Nat :=
  let arg0 : BitVec 32 := BitVec.ofNat 32 (i 0).val
  let c32_i32 : BitVec 32 := 32#32
  let v0 : BitVec 32 := Scalar.muli arg0 c32_i32
  let c22_i32 : BitVec 32 := 22#32
  let v947 : BitVec 32 := Scalar.addi v0 c22_i32
  let v948 : Index := Scalar.indexCast v947
  ![v948.toNat]
def k0_mult23 (v949 : BitVec 32) : BitVec 32 :=
  let c0_i32_374 : BitVec 32 := 0#32
  let v951 : BitVec 1 := Scalar.cmpi .sgt v949 c0_i32_374
  let v952 : BitVec 32 := Scalar.extui v951
  let c0_i32_375 : BitVec 32 := 0#32
  let v953 : BitVec 1 := Scalar.cmpi .slt v949 c0_i32_375
  let v954 : BitVec 32 := Scalar.extui v953
  let v955 : BitVec 32 := Scalar.subi v952 v954
  let c64_i32_373 : BitVec 32 := 64#32
  let c0_i32_376 : BitVec 32 := 0#32
  let v956 : BitVec 1 := Scalar.cmpi .sgt c64_i32_373 c0_i32_376
  let v957 : BitVec 32 := Scalar.extui v956
  let c0_i32_377 : BitVec 32 := 0#32
  let v958 : BitVec 1 := Scalar.cmpi .slt c64_i32_373 c0_i32_377
  let v959 : BitVec 32 := Scalar.extui v958
  let v960 : BitVec 32 := Scalar.subi v957 v959
  let v961 : BitVec 1 := Scalar.cmpi .ne v955 v960
  let v962 : BitVec 32 := Scalar.remsi v949 c64_i32_373
  let c0_i32_378 : BitVec 32 := 0#32
  let v963 : BitVec 1 := Scalar.cmpi .ne v962 c0_i32_378
  let v964 : BitVec 1 := Scalar.andi v961 v963
  let v950 : BitVec 32 := Scalar.divsi v949 c64_i32_373
  let c1_i32_379 : BitVec 32 := 1#32
  let v965 : BitVec 32 := Scalar.subi v950 c1_i32_379
  let v966 : BitVec 32 := Scalar.select v964 v965 v950
  let c64_i32_380 : BitVec 32 := 64#32
  let v967 : BitVec 32 := Scalar.muli v966 c64_i32_380
  v967

def k0_off46 (v949 : BitVec 32) : Fin 2 → Nat :=
  let c0_i32_374 : BitVec 32 := 0#32
  let v951 : BitVec 1 := Scalar.cmpi .sgt v949 c0_i32_374
  let v952 : BitVec 32 := Scalar.extui v951
  let c0_i32_375 : BitVec 32 := 0#32
  let v953 : BitVec 1 := Scalar.cmpi .slt v949 c0_i32_375
  let v954 : BitVec 32 := Scalar.extui v953
  let v955 : BitVec 32 := Scalar.subi v952 v954
  let c64_i32_373 : BitVec 32 := 64#32
  let c0_i32_376 : BitVec 32 := 0#32
  let v956 : BitVec 1 := Scalar.cmpi .sgt c64_i32_373 c0_i32_376
  let v957 : BitVec 32 := Scalar.extui v956
  let c0_i32_377 : BitVec 32 := 0#32
  let v958 : BitVec 1 := Scalar.cmpi .slt c64_i32_373 c0_i32_377
  let v959 : BitVec 32 := Scalar.extui v958
  let v960 : BitVec 32 := Scalar.subi v957 v959
  let v961 : BitVec 1 := Scalar.cmpi .ne v955 v960
  let v962 : BitVec 32 := Scalar.remsi v949 c64_i32_373
  let c0_i32_378 : BitVec 32 := 0#32
  let v963 : BitVec 1 := Scalar.cmpi .ne v962 c0_i32_378
  let v964 : BitVec 1 := Scalar.andi v961 v963
  let v950 : BitVec 32 := Scalar.divsi v949 c64_i32_373
  let c1_i32_379 : BitVec 32 := 1#32
  let v965 : BitVec 32 := Scalar.subi v950 c1_i32_379
  let v966 : BitVec 32 := Scalar.select v964 v965 v950
  let c64_i32_380 : BitVec 32 := 64#32
  let v967 : BitVec 32 := Scalar.muli v966 c64_i32_380
  let v968 : BitVec 32 := v967
  let v969 : Index := Scalar.indexCast v968
  let c0_381 : Index := 0#32
  ![v969.toNat, 0]

def k0_chk23 (v949 : BitVec 32) : Prop :=
  (64 ∣ (k0_mult23 v949).toNat) ∧
  (∀ a, (k0_off46 v949) a + S64x256.size a ≤ S100000x256.size a)
theorem k0_mult23_dvd : ∀ (v949 : BitVec 32) (k0_hw23 : k0_chk23 v949), 64 ∣ (k0_mult23 v949).toNat := fun v949 k0_hw23 => k0_hw23.1
theorem k0_off46_inb : ∀ (v949 : BitVec 32) (k0_hw23 : k0_chk23 v949), ∀ a, (k0_off46 v949) a + S64x256.size a ≤ S100000x256.size a := fun v949 k0_hw23 => k0_hw23.2

def k0_off47 (i : grid0.Coords) : Fin 1 → Nat :=
  let arg0 : BitVec 32 := BitVec.ofNat 32 (i 0).val
  let c32_i32 : BitVec 32 := 32#32
  let v0 : BitVec 32 := Scalar.muli arg0 c32_i32
  let c23_i32 : BitVec 32 := 23#32
  let v990 : BitVec 32 := Scalar.addi v0 c23_i32
  let v991 : Index := Scalar.indexCast v990
  ![v991.toNat]
def k0_mult24 (v992 : BitVec 32) : BitVec 32 :=
  let c0_i32_391 : BitVec 32 := 0#32
  let v994 : BitVec 1 := Scalar.cmpi .sgt v992 c0_i32_391
  let v995 : BitVec 32 := Scalar.extui v994
  let c0_i32_392 : BitVec 32 := 0#32
  let v996 : BitVec 1 := Scalar.cmpi .slt v992 c0_i32_392
  let v997 : BitVec 32 := Scalar.extui v996
  let v998 : BitVec 32 := Scalar.subi v995 v997
  let c64_i32_390 : BitVec 32 := 64#32
  let c0_i32_393 : BitVec 32 := 0#32
  let v999 : BitVec 1 := Scalar.cmpi .sgt c64_i32_390 c0_i32_393
  let v1000 : BitVec 32 := Scalar.extui v999
  let c0_i32_394 : BitVec 32 := 0#32
  let v1001 : BitVec 1 := Scalar.cmpi .slt c64_i32_390 c0_i32_394
  let v1002 : BitVec 32 := Scalar.extui v1001
  let v1003 : BitVec 32 := Scalar.subi v1000 v1002
  let v1004 : BitVec 1 := Scalar.cmpi .ne v998 v1003
  let v1005 : BitVec 32 := Scalar.remsi v992 c64_i32_390
  let c0_i32_395 : BitVec 32 := 0#32
  let v1006 : BitVec 1 := Scalar.cmpi .ne v1005 c0_i32_395
  let v1007 : BitVec 1 := Scalar.andi v1004 v1006
  let v993 : BitVec 32 := Scalar.divsi v992 c64_i32_390
  let c1_i32_396 : BitVec 32 := 1#32
  let v1008 : BitVec 32 := Scalar.subi v993 c1_i32_396
  let v1009 : BitVec 32 := Scalar.select v1007 v1008 v993
  let c64_i32_397 : BitVec 32 := 64#32
  let v1010 : BitVec 32 := Scalar.muli v1009 c64_i32_397
  v1010

def k0_off48 (v992 : BitVec 32) : Fin 2 → Nat :=
  let c0_i32_391 : BitVec 32 := 0#32
  let v994 : BitVec 1 := Scalar.cmpi .sgt v992 c0_i32_391
  let v995 : BitVec 32 := Scalar.extui v994
  let c0_i32_392 : BitVec 32 := 0#32
  let v996 : BitVec 1 := Scalar.cmpi .slt v992 c0_i32_392
  let v997 : BitVec 32 := Scalar.extui v996
  let v998 : BitVec 32 := Scalar.subi v995 v997
  let c64_i32_390 : BitVec 32 := 64#32
  let c0_i32_393 : BitVec 32 := 0#32
  let v999 : BitVec 1 := Scalar.cmpi .sgt c64_i32_390 c0_i32_393
  let v1000 : BitVec 32 := Scalar.extui v999
  let c0_i32_394 : BitVec 32 := 0#32
  let v1001 : BitVec 1 := Scalar.cmpi .slt c64_i32_390 c0_i32_394
  let v1002 : BitVec 32 := Scalar.extui v1001
  let v1003 : BitVec 32 := Scalar.subi v1000 v1002
  let v1004 : BitVec 1 := Scalar.cmpi .ne v998 v1003
  let v1005 : BitVec 32 := Scalar.remsi v992 c64_i32_390
  let c0_i32_395 : BitVec 32 := 0#32
  let v1006 : BitVec 1 := Scalar.cmpi .ne v1005 c0_i32_395
  let v1007 : BitVec 1 := Scalar.andi v1004 v1006
  let v993 : BitVec 32 := Scalar.divsi v992 c64_i32_390
  let c1_i32_396 : BitVec 32 := 1#32
  let v1008 : BitVec 32 := Scalar.subi v993 c1_i32_396
  let v1009 : BitVec 32 := Scalar.select v1007 v1008 v993
  let c64_i32_397 : BitVec 32 := 64#32
  let v1010 : BitVec 32 := Scalar.muli v1009 c64_i32_397
  let v1011 : BitVec 32 := v1010
  let v1012 : Index := Scalar.indexCast v1011
  let c0_398 : Index := 0#32
  ![v1012.toNat, 0]

def k0_chk24 (v992 : BitVec 32) : Prop :=
  (64 ∣ (k0_mult24 v992).toNat) ∧
  (∀ a, (k0_off48 v992) a + S64x256.size a ≤ S100000x256.size a)
theorem k0_mult24_dvd : ∀ (v992 : BitVec 32) (k0_hw24 : k0_chk24 v992), 64 ∣ (k0_mult24 v992).toNat := fun v992 k0_hw24 => k0_hw24.1
theorem k0_off48_inb : ∀ (v992 : BitVec 32) (k0_hw24 : k0_chk24 v992), ∀ a, (k0_off48 v992) a + S64x256.size a ≤ S100000x256.size a := fun v992 k0_hw24 => k0_hw24.2

def k0_off49 (i : grid0.Coords) : Fin 1 → Nat :=
  let arg0 : BitVec 32 := BitVec.ofNat 32 (i 0).val
  let c32_i32 : BitVec 32 := 32#32
  let v0 : BitVec 32 := Scalar.muli arg0 c32_i32
  let c24_i32 : BitVec 32 := 24#32
  let v1033 : BitVec 32 := Scalar.addi v0 c24_i32
  let v1034 : Index := Scalar.indexCast v1033
  ![v1034.toNat]
def k0_mult25 (v1035 : BitVec 32) : BitVec 32 :=
  let c0_i32_408 : BitVec 32 := 0#32
  let v1037 : BitVec 1 := Scalar.cmpi .sgt v1035 c0_i32_408
  let v1038 : BitVec 32 := Scalar.extui v1037
  let c0_i32_409 : BitVec 32 := 0#32
  let v1039 : BitVec 1 := Scalar.cmpi .slt v1035 c0_i32_409
  let v1040 : BitVec 32 := Scalar.extui v1039
  let v1041 : BitVec 32 := Scalar.subi v1038 v1040
  let c64_i32_407 : BitVec 32 := 64#32
  let c0_i32_410 : BitVec 32 := 0#32
  let v1042 : BitVec 1 := Scalar.cmpi .sgt c64_i32_407 c0_i32_410
  let v1043 : BitVec 32 := Scalar.extui v1042
  let c0_i32_411 : BitVec 32 := 0#32
  let v1044 : BitVec 1 := Scalar.cmpi .slt c64_i32_407 c0_i32_411
  let v1045 : BitVec 32 := Scalar.extui v1044
  let v1046 : BitVec 32 := Scalar.subi v1043 v1045
  let v1047 : BitVec 1 := Scalar.cmpi .ne v1041 v1046
  let v1048 : BitVec 32 := Scalar.remsi v1035 c64_i32_407
  let c0_i32_412 : BitVec 32 := 0#32
  let v1049 : BitVec 1 := Scalar.cmpi .ne v1048 c0_i32_412
  let v1050 : BitVec 1 := Scalar.andi v1047 v1049
  let v1036 : BitVec 32 := Scalar.divsi v1035 c64_i32_407
  let c1_i32_413 : BitVec 32 := 1#32
  let v1051 : BitVec 32 := Scalar.subi v1036 c1_i32_413
  let v1052 : BitVec 32 := Scalar.select v1050 v1051 v1036
  let c64_i32_414 : BitVec 32 := 64#32
  let v1053 : BitVec 32 := Scalar.muli v1052 c64_i32_414
  v1053

def k0_off50 (v1035 : BitVec 32) : Fin 2 → Nat :=
  let c0_i32_408 : BitVec 32 := 0#32
  let v1037 : BitVec 1 := Scalar.cmpi .sgt v1035 c0_i32_408
  let v1038 : BitVec 32 := Scalar.extui v1037
  let c0_i32_409 : BitVec 32 := 0#32
  let v1039 : BitVec 1 := Scalar.cmpi .slt v1035 c0_i32_409
  let v1040 : BitVec 32 := Scalar.extui v1039
  let v1041 : BitVec 32 := Scalar.subi v1038 v1040
  let c64_i32_407 : BitVec 32 := 64#32
  let c0_i32_410 : BitVec 32 := 0#32
  let v1042 : BitVec 1 := Scalar.cmpi .sgt c64_i32_407 c0_i32_410
  let v1043 : BitVec 32 := Scalar.extui v1042
  let c0_i32_411 : BitVec 32 := 0#32
  let v1044 : BitVec 1 := Scalar.cmpi .slt c64_i32_407 c0_i32_411
  let v1045 : BitVec 32 := Scalar.extui v1044
  let v1046 : BitVec 32 := Scalar.subi v1043 v1045
  let v1047 : BitVec 1 := Scalar.cmpi .ne v1041 v1046
  let v1048 : BitVec 32 := Scalar.remsi v1035 c64_i32_407
  let c0_i32_412 : BitVec 32 := 0#32
  let v1049 : BitVec 1 := Scalar.cmpi .ne v1048 c0_i32_412
  let v1050 : BitVec 1 := Scalar.andi v1047 v1049
  let v1036 : BitVec 32 := Scalar.divsi v1035 c64_i32_407
  let c1_i32_413 : BitVec 32 := 1#32
  let v1051 : BitVec 32 := Scalar.subi v1036 c1_i32_413
  let v1052 : BitVec 32 := Scalar.select v1050 v1051 v1036
  let c64_i32_414 : BitVec 32 := 64#32
  let v1053 : BitVec 32 := Scalar.muli v1052 c64_i32_414
  let v1054 : BitVec 32 := v1053
  let v1055 : Index := Scalar.indexCast v1054
  let c0_415 : Index := 0#32
  ![v1055.toNat, 0]

def k0_chk25 (v1035 : BitVec 32) : Prop :=
  (64 ∣ (k0_mult25 v1035).toNat) ∧
  (∀ a, (k0_off50 v1035) a + S64x256.size a ≤ S100000x256.size a)
theorem k0_mult25_dvd : ∀ (v1035 : BitVec 32) (k0_hw25 : k0_chk25 v1035), 64 ∣ (k0_mult25 v1035).toNat := fun v1035 k0_hw25 => k0_hw25.1
theorem k0_off50_inb : ∀ (v1035 : BitVec 32) (k0_hw25 : k0_chk25 v1035), ∀ a, (k0_off50 v1035) a + S64x256.size a ≤ S100000x256.size a := fun v1035 k0_hw25 => k0_hw25.2

def k0_off51 (i : grid0.Coords) : Fin 1 → Nat :=
  let arg0 : BitVec 32 := BitVec.ofNat 32 (i 0).val
  let c32_i32 : BitVec 32 := 32#32
  let v0 : BitVec 32 := Scalar.muli arg0 c32_i32
  let c25_i32 : BitVec 32 := 25#32
  let v1076 : BitVec 32 := Scalar.addi v0 c25_i32
  let v1077 : Index := Scalar.indexCast v1076
  ![v1077.toNat]
def k0_mult26 (v1078 : BitVec 32) : BitVec 32 :=
  let c0_i32_425 : BitVec 32 := 0#32
  let v1080 : BitVec 1 := Scalar.cmpi .sgt v1078 c0_i32_425
  let v1081 : BitVec 32 := Scalar.extui v1080
  let c0_i32_426 : BitVec 32 := 0#32
  let v1082 : BitVec 1 := Scalar.cmpi .slt v1078 c0_i32_426
  let v1083 : BitVec 32 := Scalar.extui v1082
  let v1084 : BitVec 32 := Scalar.subi v1081 v1083
  let c64_i32_424 : BitVec 32 := 64#32
  let c0_i32_427 : BitVec 32 := 0#32
  let v1085 : BitVec 1 := Scalar.cmpi .sgt c64_i32_424 c0_i32_427
  let v1086 : BitVec 32 := Scalar.extui v1085
  let c0_i32_428 : BitVec 32 := 0#32
  let v1087 : BitVec 1 := Scalar.cmpi .slt c64_i32_424 c0_i32_428
  let v1088 : BitVec 32 := Scalar.extui v1087
  let v1089 : BitVec 32 := Scalar.subi v1086 v1088
  let v1090 : BitVec 1 := Scalar.cmpi .ne v1084 v1089
  let v1091 : BitVec 32 := Scalar.remsi v1078 c64_i32_424
  let c0_i32_429 : BitVec 32 := 0#32
  let v1092 : BitVec 1 := Scalar.cmpi .ne v1091 c0_i32_429
  let v1093 : BitVec 1 := Scalar.andi v1090 v1092
  let v1079 : BitVec 32 := Scalar.divsi v1078 c64_i32_424
  let c1_i32_430 : BitVec 32 := 1#32
  let v1094 : BitVec 32 := Scalar.subi v1079 c1_i32_430
  let v1095 : BitVec 32 := Scalar.select v1093 v1094 v1079
  let c64_i32_431 : BitVec 32 := 64#32
  let v1096 : BitVec 32 := Scalar.muli v1095 c64_i32_431
  v1096

def k0_off52 (v1078 : BitVec 32) : Fin 2 → Nat :=
  let c0_i32_425 : BitVec 32 := 0#32
  let v1080 : BitVec 1 := Scalar.cmpi .sgt v1078 c0_i32_425
  let v1081 : BitVec 32 := Scalar.extui v1080
  let c0_i32_426 : BitVec 32 := 0#32
  let v1082 : BitVec 1 := Scalar.cmpi .slt v1078 c0_i32_426
  let v1083 : BitVec 32 := Scalar.extui v1082
  let v1084 : BitVec 32 := Scalar.subi v1081 v1083
  let c64_i32_424 : BitVec 32 := 64#32
  let c0_i32_427 : BitVec 32 := 0#32
  let v1085 : BitVec 1 := Scalar.cmpi .sgt c64_i32_424 c0_i32_427
  let v1086 : BitVec 32 := Scalar.extui v1085
  let c0_i32_428 : BitVec 32 := 0#32
  let v1087 : BitVec 1 := Scalar.cmpi .slt c64_i32_424 c0_i32_428
  let v1088 : BitVec 32 := Scalar.extui v1087
  let v1089 : BitVec 32 := Scalar.subi v1086 v1088
  let v1090 : BitVec 1 := Scalar.cmpi .ne v1084 v1089
  let v1091 : BitVec 32 := Scalar.remsi v1078 c64_i32_424
  let c0_i32_429 : BitVec 32 := 0#32
  let v1092 : BitVec 1 := Scalar.cmpi .ne v1091 c0_i32_429
  let v1093 : BitVec 1 := Scalar.andi v1090 v1092
  let v1079 : BitVec 32 := Scalar.divsi v1078 c64_i32_424
  let c1_i32_430 : BitVec 32 := 1#32
  let v1094 : BitVec 32 := Scalar.subi v1079 c1_i32_430
  let v1095 : BitVec 32 := Scalar.select v1093 v1094 v1079
  let c64_i32_431 : BitVec 32 := 64#32
  let v1096 : BitVec 32 := Scalar.muli v1095 c64_i32_431
  let v1097 : BitVec 32 := v1096
  let v1098 : Index := Scalar.indexCast v1097
  let c0_432 : Index := 0#32
  ![v1098.toNat, 0]

def k0_chk26 (v1078 : BitVec 32) : Prop :=
  (64 ∣ (k0_mult26 v1078).toNat) ∧
  (∀ a, (k0_off52 v1078) a + S64x256.size a ≤ S100000x256.size a)
theorem k0_mult26_dvd : ∀ (v1078 : BitVec 32) (k0_hw26 : k0_chk26 v1078), 64 ∣ (k0_mult26 v1078).toNat := fun v1078 k0_hw26 => k0_hw26.1
theorem k0_off52_inb : ∀ (v1078 : BitVec 32) (k0_hw26 : k0_chk26 v1078), ∀ a, (k0_off52 v1078) a + S64x256.size a ≤ S100000x256.size a := fun v1078 k0_hw26 => k0_hw26.2

def k0_off53 (i : grid0.Coords) : Fin 1 → Nat :=
  let arg0 : BitVec 32 := BitVec.ofNat 32 (i 0).val
  let c32_i32 : BitVec 32 := 32#32
  let v0 : BitVec 32 := Scalar.muli arg0 c32_i32
  let c26_i32 : BitVec 32 := 26#32
  let v1119 : BitVec 32 := Scalar.addi v0 c26_i32
  let v1120 : Index := Scalar.indexCast v1119
  ![v1120.toNat]
def k0_mult27 (v1121 : BitVec 32) : BitVec 32 :=
  let c0_i32_442 : BitVec 32 := 0#32
  let v1123 : BitVec 1 := Scalar.cmpi .sgt v1121 c0_i32_442
  let v1124 : BitVec 32 := Scalar.extui v1123
  let c0_i32_443 : BitVec 32 := 0#32
  let v1125 : BitVec 1 := Scalar.cmpi .slt v1121 c0_i32_443
  let v1126 : BitVec 32 := Scalar.extui v1125
  let v1127 : BitVec 32 := Scalar.subi v1124 v1126
  let c64_i32_441 : BitVec 32 := 64#32
  let c0_i32_444 : BitVec 32 := 0#32
  let v1128 : BitVec 1 := Scalar.cmpi .sgt c64_i32_441 c0_i32_444
  let v1129 : BitVec 32 := Scalar.extui v1128
  let c0_i32_445 : BitVec 32 := 0#32
  let v1130 : BitVec 1 := Scalar.cmpi .slt c64_i32_441 c0_i32_445
  let v1131 : BitVec 32 := Scalar.extui v1130
  let v1132 : BitVec 32 := Scalar.subi v1129 v1131
  let v1133 : BitVec 1 := Scalar.cmpi .ne v1127 v1132
  let v1134 : BitVec 32 := Scalar.remsi v1121 c64_i32_441
  let c0_i32_446 : BitVec 32 := 0#32
  let v1135 : BitVec 1 := Scalar.cmpi .ne v1134 c0_i32_446
  let v1136 : BitVec 1 := Scalar.andi v1133 v1135
  let v1122 : BitVec 32 := Scalar.divsi v1121 c64_i32_441
  let c1_i32_447 : BitVec 32 := 1#32
  let v1137 : BitVec 32 := Scalar.subi v1122 c1_i32_447
  let v1138 : BitVec 32 := Scalar.select v1136 v1137 v1122
  let c64_i32_448 : BitVec 32 := 64#32
  let v1139 : BitVec 32 := Scalar.muli v1138 c64_i32_448
  v1139

def k0_off54 (v1121 : BitVec 32) : Fin 2 → Nat :=
  let c0_i32_442 : BitVec 32 := 0#32
  let v1123 : BitVec 1 := Scalar.cmpi .sgt v1121 c0_i32_442
  let v1124 : BitVec 32 := Scalar.extui v1123
  let c0_i32_443 : BitVec 32 := 0#32
  let v1125 : BitVec 1 := Scalar.cmpi .slt v1121 c0_i32_443
  let v1126 : BitVec 32 := Scalar.extui v1125
  let v1127 : BitVec 32 := Scalar.subi v1124 v1126
  let c64_i32_441 : BitVec 32 := 64#32
  let c0_i32_444 : BitVec 32 := 0#32
  let v1128 : BitVec 1 := Scalar.cmpi .sgt c64_i32_441 c0_i32_444
  let v1129 : BitVec 32 := Scalar.extui v1128
  let c0_i32_445 : BitVec 32 := 0#32
  let v1130 : BitVec 1 := Scalar.cmpi .slt c64_i32_441 c0_i32_445
  let v1131 : BitVec 32 := Scalar.extui v1130
  let v1132 : BitVec 32 := Scalar.subi v1129 v1131
  let v1133 : BitVec 1 := Scalar.cmpi .ne v1127 v1132
  let v1134 : BitVec 32 := Scalar.remsi v1121 c64_i32_441
  let c0_i32_446 : BitVec 32 := 0#32
  let v1135 : BitVec 1 := Scalar.cmpi .ne v1134 c0_i32_446
  let v1136 : BitVec 1 := Scalar.andi v1133 v1135
  let v1122 : BitVec 32 := Scalar.divsi v1121 c64_i32_441
  let c1_i32_447 : BitVec 32 := 1#32
  let v1137 : BitVec 32 := Scalar.subi v1122 c1_i32_447
  let v1138 : BitVec 32 := Scalar.select v1136 v1137 v1122
  let c64_i32_448 : BitVec 32 := 64#32
  let v1139 : BitVec 32 := Scalar.muli v1138 c64_i32_448
  let v1140 : BitVec 32 := v1139
  let v1141 : Index := Scalar.indexCast v1140
  let c0_449 : Index := 0#32
  ![v1141.toNat, 0]

def k0_chk27 (v1121 : BitVec 32) : Prop :=
  (64 ∣ (k0_mult27 v1121).toNat) ∧
  (∀ a, (k0_off54 v1121) a + S64x256.size a ≤ S100000x256.size a)
theorem k0_mult27_dvd : ∀ (v1121 : BitVec 32) (k0_hw27 : k0_chk27 v1121), 64 ∣ (k0_mult27 v1121).toNat := fun v1121 k0_hw27 => k0_hw27.1
theorem k0_off54_inb : ∀ (v1121 : BitVec 32) (k0_hw27 : k0_chk27 v1121), ∀ a, (k0_off54 v1121) a + S64x256.size a ≤ S100000x256.size a := fun v1121 k0_hw27 => k0_hw27.2

def k0_off55 (i : grid0.Coords) : Fin 1 → Nat :=
  let arg0 : BitVec 32 := BitVec.ofNat 32 (i 0).val
  let c32_i32 : BitVec 32 := 32#32
  let v0 : BitVec 32 := Scalar.muli arg0 c32_i32
  let c27_i32 : BitVec 32 := 27#32
  let v1162 : BitVec 32 := Scalar.addi v0 c27_i32
  let v1163 : Index := Scalar.indexCast v1162
  ![v1163.toNat]
def k0_mult28 (v1164 : BitVec 32) : BitVec 32 :=
  let c0_i32_459 : BitVec 32 := 0#32
  let v1166 : BitVec 1 := Scalar.cmpi .sgt v1164 c0_i32_459
  let v1167 : BitVec 32 := Scalar.extui v1166
  let c0_i32_460 : BitVec 32 := 0#32
  let v1168 : BitVec 1 := Scalar.cmpi .slt v1164 c0_i32_460
  let v1169 : BitVec 32 := Scalar.extui v1168
  let v1170 : BitVec 32 := Scalar.subi v1167 v1169
  let c64_i32_458 : BitVec 32 := 64#32
  let c0_i32_461 : BitVec 32 := 0#32
  let v1171 : BitVec 1 := Scalar.cmpi .sgt c64_i32_458 c0_i32_461
  let v1172 : BitVec 32 := Scalar.extui v1171
  let c0_i32_462 : BitVec 32 := 0#32
  let v1173 : BitVec 1 := Scalar.cmpi .slt c64_i32_458 c0_i32_462
  let v1174 : BitVec 32 := Scalar.extui v1173
  let v1175 : BitVec 32 := Scalar.subi v1172 v1174
  let v1176 : BitVec 1 := Scalar.cmpi .ne v1170 v1175
  let v1177 : BitVec 32 := Scalar.remsi v1164 c64_i32_458
  let c0_i32_463 : BitVec 32 := 0#32
  let v1178 : BitVec 1 := Scalar.cmpi .ne v1177 c0_i32_463
  let v1179 : BitVec 1 := Scalar.andi v1176 v1178
  let v1165 : BitVec 32 := Scalar.divsi v1164 c64_i32_458
  let c1_i32_464 : BitVec 32 := 1#32
  let v1180 : BitVec 32 := Scalar.subi v1165 c1_i32_464
  let v1181 : BitVec 32 := Scalar.select v1179 v1180 v1165
  let c64_i32_465 : BitVec 32 := 64#32
  let v1182 : BitVec 32 := Scalar.muli v1181 c64_i32_465
  v1182

def k0_off56 (v1164 : BitVec 32) : Fin 2 → Nat :=
  let c0_i32_459 : BitVec 32 := 0#32
  let v1166 : BitVec 1 := Scalar.cmpi .sgt v1164 c0_i32_459
  let v1167 : BitVec 32 := Scalar.extui v1166
  let c0_i32_460 : BitVec 32 := 0#32
  let v1168 : BitVec 1 := Scalar.cmpi .slt v1164 c0_i32_460
  let v1169 : BitVec 32 := Scalar.extui v1168
  let v1170 : BitVec 32 := Scalar.subi v1167 v1169
  let c64_i32_458 : BitVec 32 := 64#32
  let c0_i32_461 : BitVec 32 := 0#32
  let v1171 : BitVec 1 := Scalar.cmpi .sgt c64_i32_458 c0_i32_461
  let v1172 : BitVec 32 := Scalar.extui v1171
  let c0_i32_462 : BitVec 32 := 0#32
  let v1173 : BitVec 1 := Scalar.cmpi .slt c64_i32_458 c0_i32_462
  let v1174 : BitVec 32 := Scalar.extui v1173
  let v1175 : BitVec 32 := Scalar.subi v1172 v1174
  let v1176 : BitVec 1 := Scalar.cmpi .ne v1170 v1175
  let v1177 : BitVec 32 := Scalar.remsi v1164 c64_i32_458
  let c0_i32_463 : BitVec 32 := 0#32
  let v1178 : BitVec 1 := Scalar.cmpi .ne v1177 c0_i32_463
  let v1179 : BitVec 1 := Scalar.andi v1176 v1178
  let v1165 : BitVec 32 := Scalar.divsi v1164 c64_i32_458
  let c1_i32_464 : BitVec 32 := 1#32
  let v1180 : BitVec 32 := Scalar.subi v1165 c1_i32_464
  let v1181 : BitVec 32 := Scalar.select v1179 v1180 v1165
  let c64_i32_465 : BitVec 32 := 64#32
  let v1182 : BitVec 32 := Scalar.muli v1181 c64_i32_465
  let v1183 : BitVec 32 := v1182
  let v1184 : Index := Scalar.indexCast v1183
  let c0_466 : Index := 0#32
  ![v1184.toNat, 0]

def k0_chk28 (v1164 : BitVec 32) : Prop :=
  (64 ∣ (k0_mult28 v1164).toNat) ∧
  (∀ a, (k0_off56 v1164) a + S64x256.size a ≤ S100000x256.size a)
theorem k0_mult28_dvd : ∀ (v1164 : BitVec 32) (k0_hw28 : k0_chk28 v1164), 64 ∣ (k0_mult28 v1164).toNat := fun v1164 k0_hw28 => k0_hw28.1
theorem k0_off56_inb : ∀ (v1164 : BitVec 32) (k0_hw28 : k0_chk28 v1164), ∀ a, (k0_off56 v1164) a + S64x256.size a ≤ S100000x256.size a := fun v1164 k0_hw28 => k0_hw28.2

def k0_off57 (i : grid0.Coords) : Fin 1 → Nat :=
  let arg0 : BitVec 32 := BitVec.ofNat 32 (i 0).val
  let c32_i32 : BitVec 32 := 32#32
  let v0 : BitVec 32 := Scalar.muli arg0 c32_i32
  let c28_i32 : BitVec 32 := 28#32
  let v1205 : BitVec 32 := Scalar.addi v0 c28_i32
  let v1206 : Index := Scalar.indexCast v1205
  ![v1206.toNat]
def k0_mult29 (v1207 : BitVec 32) : BitVec 32 :=
  let c0_i32_476 : BitVec 32 := 0#32
  let v1209 : BitVec 1 := Scalar.cmpi .sgt v1207 c0_i32_476
  let v1210 : BitVec 32 := Scalar.extui v1209
  let c0_i32_477 : BitVec 32 := 0#32
  let v1211 : BitVec 1 := Scalar.cmpi .slt v1207 c0_i32_477
  let v1212 : BitVec 32 := Scalar.extui v1211
  let v1213 : BitVec 32 := Scalar.subi v1210 v1212
  let c64_i32_475 : BitVec 32 := 64#32
  let c0_i32_478 : BitVec 32 := 0#32
  let v1214 : BitVec 1 := Scalar.cmpi .sgt c64_i32_475 c0_i32_478
  let v1215 : BitVec 32 := Scalar.extui v1214
  let c0_i32_479 : BitVec 32 := 0#32
  let v1216 : BitVec 1 := Scalar.cmpi .slt c64_i32_475 c0_i32_479
  let v1217 : BitVec 32 := Scalar.extui v1216
  let v1218 : BitVec 32 := Scalar.subi v1215 v1217
  let v1219 : BitVec 1 := Scalar.cmpi .ne v1213 v1218
  let v1220 : BitVec 32 := Scalar.remsi v1207 c64_i32_475
  let c0_i32_480 : BitVec 32 := 0#32
  let v1221 : BitVec 1 := Scalar.cmpi .ne v1220 c0_i32_480
  let v1222 : BitVec 1 := Scalar.andi v1219 v1221
  let v1208 : BitVec 32 := Scalar.divsi v1207 c64_i32_475
  let c1_i32_481 : BitVec 32 := 1#32
  let v1223 : BitVec 32 := Scalar.subi v1208 c1_i32_481
  let v1224 : BitVec 32 := Scalar.select v1222 v1223 v1208
  let c64_i32_482 : BitVec 32 := 64#32
  let v1225 : BitVec 32 := Scalar.muli v1224 c64_i32_482
  v1225

def k0_off58 (v1207 : BitVec 32) : Fin 2 → Nat :=
  let c0_i32_476 : BitVec 32 := 0#32
  let v1209 : BitVec 1 := Scalar.cmpi .sgt v1207 c0_i32_476
  let v1210 : BitVec 32 := Scalar.extui v1209
  let c0_i32_477 : BitVec 32 := 0#32
  let v1211 : BitVec 1 := Scalar.cmpi .slt v1207 c0_i32_477
  let v1212 : BitVec 32 := Scalar.extui v1211
  let v1213 : BitVec 32 := Scalar.subi v1210 v1212
  let c64_i32_475 : BitVec 32 := 64#32
  let c0_i32_478 : BitVec 32 := 0#32
  let v1214 : BitVec 1 := Scalar.cmpi .sgt c64_i32_475 c0_i32_478
  let v1215 : BitVec 32 := Scalar.extui v1214
  let c0_i32_479 : BitVec 32 := 0#32
  let v1216 : BitVec 1 := Scalar.cmpi .slt c64_i32_475 c0_i32_479
  let v1217 : BitVec 32 := Scalar.extui v1216
  let v1218 : BitVec 32 := Scalar.subi v1215 v1217
  let v1219 : BitVec 1 := Scalar.cmpi .ne v1213 v1218
  let v1220 : BitVec 32 := Scalar.remsi v1207 c64_i32_475
  let c0_i32_480 : BitVec 32 := 0#32
  let v1221 : BitVec 1 := Scalar.cmpi .ne v1220 c0_i32_480
  let v1222 : BitVec 1 := Scalar.andi v1219 v1221
  let v1208 : BitVec 32 := Scalar.divsi v1207 c64_i32_475
  let c1_i32_481 : BitVec 32 := 1#32
  let v1223 : BitVec 32 := Scalar.subi v1208 c1_i32_481
  let v1224 : BitVec 32 := Scalar.select v1222 v1223 v1208
  let c64_i32_482 : BitVec 32 := 64#32
  let v1225 : BitVec 32 := Scalar.muli v1224 c64_i32_482
  let v1226 : BitVec 32 := v1225
  let v1227 : Index := Scalar.indexCast v1226
  let c0_483 : Index := 0#32
  ![v1227.toNat, 0]

def k0_chk29 (v1207 : BitVec 32) : Prop :=
  (64 ∣ (k0_mult29 v1207).toNat) ∧
  (∀ a, (k0_off58 v1207) a + S64x256.size a ≤ S100000x256.size a)
theorem k0_mult29_dvd : ∀ (v1207 : BitVec 32) (k0_hw29 : k0_chk29 v1207), 64 ∣ (k0_mult29 v1207).toNat := fun v1207 k0_hw29 => k0_hw29.1
theorem k0_off58_inb : ∀ (v1207 : BitVec 32) (k0_hw29 : k0_chk29 v1207), ∀ a, (k0_off58 v1207) a + S64x256.size a ≤ S100000x256.size a := fun v1207 k0_hw29 => k0_hw29.2

def k0_off59 (i : grid0.Coords) : Fin 1 → Nat :=
  let arg0 : BitVec 32 := BitVec.ofNat 32 (i 0).val
  let c32_i32 : BitVec 32 := 32#32
  let v0 : BitVec 32 := Scalar.muli arg0 c32_i32
  let c29_i32 : BitVec 32 := 29#32
  let v1248 : BitVec 32 := Scalar.addi v0 c29_i32
  let v1249 : Index := Scalar.indexCast v1248
  ![v1249.toNat]
def k0_mult30 (v1250 : BitVec 32) : BitVec 32 :=
  let c0_i32_493 : BitVec 32 := 0#32
  let v1252 : BitVec 1 := Scalar.cmpi .sgt v1250 c0_i32_493
  let v1253 : BitVec 32 := Scalar.extui v1252
  let c0_i32_494 : BitVec 32 := 0#32
  let v1254 : BitVec 1 := Scalar.cmpi .slt v1250 c0_i32_494
  let v1255 : BitVec 32 := Scalar.extui v1254
  let v1256 : BitVec 32 := Scalar.subi v1253 v1255
  let c64_i32_492 : BitVec 32 := 64#32
  let c0_i32_495 : BitVec 32 := 0#32
  let v1257 : BitVec 1 := Scalar.cmpi .sgt c64_i32_492 c0_i32_495
  let v1258 : BitVec 32 := Scalar.extui v1257
  let c0_i32_496 : BitVec 32 := 0#32
  let v1259 : BitVec 1 := Scalar.cmpi .slt c64_i32_492 c0_i32_496
  let v1260 : BitVec 32 := Scalar.extui v1259
  let v1261 : BitVec 32 := Scalar.subi v1258 v1260
  let v1262 : BitVec 1 := Scalar.cmpi .ne v1256 v1261
  let v1263 : BitVec 32 := Scalar.remsi v1250 c64_i32_492
  let c0_i32_497 : BitVec 32 := 0#32
  let v1264 : BitVec 1 := Scalar.cmpi .ne v1263 c0_i32_497
  let v1265 : BitVec 1 := Scalar.andi v1262 v1264
  let v1251 : BitVec 32 := Scalar.divsi v1250 c64_i32_492
  let c1_i32_498 : BitVec 32 := 1#32
  let v1266 : BitVec 32 := Scalar.subi v1251 c1_i32_498
  let v1267 : BitVec 32 := Scalar.select v1265 v1266 v1251
  let c64_i32_499 : BitVec 32 := 64#32
  let v1268 : BitVec 32 := Scalar.muli v1267 c64_i32_499
  v1268

def k0_off60 (v1250 : BitVec 32) : Fin 2 → Nat :=
  let c0_i32_493 : BitVec 32 := 0#32
  let v1252 : BitVec 1 := Scalar.cmpi .sgt v1250 c0_i32_493
  let v1253 : BitVec 32 := Scalar.extui v1252
  let c0_i32_494 : BitVec 32 := 0#32
  let v1254 : BitVec 1 := Scalar.cmpi .slt v1250 c0_i32_494
  let v1255 : BitVec 32 := Scalar.extui v1254
  let v1256 : BitVec 32 := Scalar.subi v1253 v1255
  let c64_i32_492 : BitVec 32 := 64#32
  let c0_i32_495 : BitVec 32 := 0#32
  let v1257 : BitVec 1 := Scalar.cmpi .sgt c64_i32_492 c0_i32_495
  let v1258 : BitVec 32 := Scalar.extui v1257
  let c0_i32_496 : BitVec 32 := 0#32
  let v1259 : BitVec 1 := Scalar.cmpi .slt c64_i32_492 c0_i32_496
  let v1260 : BitVec 32 := Scalar.extui v1259
  let v1261 : BitVec 32 := Scalar.subi v1258 v1260
  let v1262 : BitVec 1 := Scalar.cmpi .ne v1256 v1261
  let v1263 : BitVec 32 := Scalar.remsi v1250 c64_i32_492
  let c0_i32_497 : BitVec 32 := 0#32
  let v1264 : BitVec 1 := Scalar.cmpi .ne v1263 c0_i32_497
  let v1265 : BitVec 1 := Scalar.andi v1262 v1264
  let v1251 : BitVec 32 := Scalar.divsi v1250 c64_i32_492
  let c1_i32_498 : BitVec 32 := 1#32
  let v1266 : BitVec 32 := Scalar.subi v1251 c1_i32_498
  let v1267 : BitVec 32 := Scalar.select v1265 v1266 v1251
  let c64_i32_499 : BitVec 32 := 64#32
  let v1268 : BitVec 32 := Scalar.muli v1267 c64_i32_499
  let v1269 : BitVec 32 := v1268
  let v1270 : Index := Scalar.indexCast v1269
  let c0_500 : Index := 0#32
  ![v1270.toNat, 0]

def k0_chk30 (v1250 : BitVec 32) : Prop :=
  (64 ∣ (k0_mult30 v1250).toNat) ∧
  (∀ a, (k0_off60 v1250) a + S64x256.size a ≤ S100000x256.size a)
theorem k0_mult30_dvd : ∀ (v1250 : BitVec 32) (k0_hw30 : k0_chk30 v1250), 64 ∣ (k0_mult30 v1250).toNat := fun v1250 k0_hw30 => k0_hw30.1
theorem k0_off60_inb : ∀ (v1250 : BitVec 32) (k0_hw30 : k0_chk30 v1250), ∀ a, (k0_off60 v1250) a + S64x256.size a ≤ S100000x256.size a := fun v1250 k0_hw30 => k0_hw30.2

def k0_off61 (i : grid0.Coords) : Fin 1 → Nat :=
  let arg0 : BitVec 32 := BitVec.ofNat 32 (i 0).val
  let c32_i32 : BitVec 32 := 32#32
  let v0 : BitVec 32 := Scalar.muli arg0 c32_i32
  let c30_i32 : BitVec 32 := 30#32
  let v1291 : BitVec 32 := Scalar.addi v0 c30_i32
  let v1292 : Index := Scalar.indexCast v1291
  ![v1292.toNat]
def k0_mult31 (v1293 : BitVec 32) : BitVec 32 :=
  let c0_i32_510 : BitVec 32 := 0#32
  let v1295 : BitVec 1 := Scalar.cmpi .sgt v1293 c0_i32_510
  let v1296 : BitVec 32 := Scalar.extui v1295
  let c0_i32_511 : BitVec 32 := 0#32
  let v1297 : BitVec 1 := Scalar.cmpi .slt v1293 c0_i32_511
  let v1298 : BitVec 32 := Scalar.extui v1297
  let v1299 : BitVec 32 := Scalar.subi v1296 v1298
  let c64_i32_509 : BitVec 32 := 64#32
  let c0_i32_512 : BitVec 32 := 0#32
  let v1300 : BitVec 1 := Scalar.cmpi .sgt c64_i32_509 c0_i32_512
  let v1301 : BitVec 32 := Scalar.extui v1300
  let c0_i32_513 : BitVec 32 := 0#32
  let v1302 : BitVec 1 := Scalar.cmpi .slt c64_i32_509 c0_i32_513
  let v1303 : BitVec 32 := Scalar.extui v1302
  let v1304 : BitVec 32 := Scalar.subi v1301 v1303
  let v1305 : BitVec 1 := Scalar.cmpi .ne v1299 v1304
  let v1306 : BitVec 32 := Scalar.remsi v1293 c64_i32_509
  let c0_i32_514 : BitVec 32 := 0#32
  let v1307 : BitVec 1 := Scalar.cmpi .ne v1306 c0_i32_514
  let v1308 : BitVec 1 := Scalar.andi v1305 v1307
  let v1294 : BitVec 32 := Scalar.divsi v1293 c64_i32_509
  let c1_i32_515 : BitVec 32 := 1#32
  let v1309 : BitVec 32 := Scalar.subi v1294 c1_i32_515
  let v1310 : BitVec 32 := Scalar.select v1308 v1309 v1294
  let c64_i32_516 : BitVec 32 := 64#32
  let v1311 : BitVec 32 := Scalar.muli v1310 c64_i32_516
  v1311

def k0_off62 (v1293 : BitVec 32) : Fin 2 → Nat :=
  let c0_i32_510 : BitVec 32 := 0#32
  let v1295 : BitVec 1 := Scalar.cmpi .sgt v1293 c0_i32_510
  let v1296 : BitVec 32 := Scalar.extui v1295
  let c0_i32_511 : BitVec 32 := 0#32
  let v1297 : BitVec 1 := Scalar.cmpi .slt v1293 c0_i32_511
  let v1298 : BitVec 32 := Scalar.extui v1297
  let v1299 : BitVec 32 := Scalar.subi v1296 v1298
  let c64_i32_509 : BitVec 32 := 64#32
  let c0_i32_512 : BitVec 32 := 0#32
  let v1300 : BitVec 1 := Scalar.cmpi .sgt c64_i32_509 c0_i32_512
  let v1301 : BitVec 32 := Scalar.extui v1300
  let c0_i32_513 : BitVec 32 := 0#32
  let v1302 : BitVec 1 := Scalar.cmpi .slt c64_i32_509 c0_i32_513
  let v1303 : BitVec 32 := Scalar.extui v1302
  let v1304 : BitVec 32 := Scalar.subi v1301 v1303
  let v1305 : BitVec 1 := Scalar.cmpi .ne v1299 v1304
  let v1306 : BitVec 32 := Scalar.remsi v1293 c64_i32_509
  let c0_i32_514 : BitVec 32 := 0#32
  let v1307 : BitVec 1 := Scalar.cmpi .ne v1306 c0_i32_514
  let v1308 : BitVec 1 := Scalar.andi v1305 v1307
  let v1294 : BitVec 32 := Scalar.divsi v1293 c64_i32_509
  let c1_i32_515 : BitVec 32 := 1#32
  let v1309 : BitVec 32 := Scalar.subi v1294 c1_i32_515
  let v1310 : BitVec 32 := Scalar.select v1308 v1309 v1294
  let c64_i32_516 : BitVec 32 := 64#32
  let v1311 : BitVec 32 := Scalar.muli v1310 c64_i32_516
  let v1312 : BitVec 32 := v1311
  let v1313 : Index := Scalar.indexCast v1312
  let c0_517 : Index := 0#32
  ![v1313.toNat, 0]

def k0_chk31 (v1293 : BitVec 32) : Prop :=
  (64 ∣ (k0_mult31 v1293).toNat) ∧
  (∀ a, (k0_off62 v1293) a + S64x256.size a ≤ S100000x256.size a)
theorem k0_mult31_dvd : ∀ (v1293 : BitVec 32) (k0_hw31 : k0_chk31 v1293), 64 ∣ (k0_mult31 v1293).toNat := fun v1293 k0_hw31 => k0_hw31.1
theorem k0_off62_inb : ∀ (v1293 : BitVec 32) (k0_hw31 : k0_chk31 v1293), ∀ a, (k0_off62 v1293) a + S64x256.size a ≤ S100000x256.size a := fun v1293 k0_hw31 => k0_hw31.2

def k0_off63 (i : grid0.Coords) : Fin 1 → Nat :=
  let arg0 : BitVec 32 := BitVec.ofNat 32 (i 0).val
  let c32_i32 : BitVec 32 := 32#32
  let v0 : BitVec 32 := Scalar.muli arg0 c32_i32
  let c31_i32 : BitVec 32 := 31#32
  let v1334 : BitVec 32 := Scalar.addi v0 c31_i32
  let v1335 : Index := Scalar.indexCast v1334
  ![v1335.toNat]
def k0_mult32 (v1336 : BitVec 32) : BitVec 32 :=
  let c0_i32_527 : BitVec 32 := 0#32
  let v1338 : BitVec 1 := Scalar.cmpi .sgt v1336 c0_i32_527
  let v1339 : BitVec 32 := Scalar.extui v1338
  let c0_i32_528 : BitVec 32 := 0#32
  let v1340 : BitVec 1 := Scalar.cmpi .slt v1336 c0_i32_528
  let v1341 : BitVec 32 := Scalar.extui v1340
  let v1342 : BitVec 32 := Scalar.subi v1339 v1341
  let c64_i32_526 : BitVec 32 := 64#32
  let c0_i32_529 : BitVec 32 := 0#32
  let v1343 : BitVec 1 := Scalar.cmpi .sgt c64_i32_526 c0_i32_529
  let v1344 : BitVec 32 := Scalar.extui v1343
  let c0_i32_530 : BitVec 32 := 0#32
  let v1345 : BitVec 1 := Scalar.cmpi .slt c64_i32_526 c0_i32_530
  let v1346 : BitVec 32 := Scalar.extui v1345
  let v1347 : BitVec 32 := Scalar.subi v1344 v1346
  let v1348 : BitVec 1 := Scalar.cmpi .ne v1342 v1347
  let v1349 : BitVec 32 := Scalar.remsi v1336 c64_i32_526
  let c0_i32_531 : BitVec 32 := 0#32
  let v1350 : BitVec 1 := Scalar.cmpi .ne v1349 c0_i32_531
  let v1351 : BitVec 1 := Scalar.andi v1348 v1350
  let v1337 : BitVec 32 := Scalar.divsi v1336 c64_i32_526
  let c1_i32_532 : BitVec 32 := 1#32
  let v1352 : BitVec 32 := Scalar.subi v1337 c1_i32_532
  let v1353 : BitVec 32 := Scalar.select v1351 v1352 v1337
  let c64_i32_533 : BitVec 32 := 64#32
  let v1354 : BitVec 32 := Scalar.muli v1353 c64_i32_533
  v1354

def k0_off64 (v1336 : BitVec 32) : Fin 2 → Nat :=
  let c0_i32_527 : BitVec 32 := 0#32
  let v1338 : BitVec 1 := Scalar.cmpi .sgt v1336 c0_i32_527
  let v1339 : BitVec 32 := Scalar.extui v1338
  let c0_i32_528 : BitVec 32 := 0#32
  let v1340 : BitVec 1 := Scalar.cmpi .slt v1336 c0_i32_528
  let v1341 : BitVec 32 := Scalar.extui v1340
  let v1342 : BitVec 32 := Scalar.subi v1339 v1341
  let c64_i32_526 : BitVec 32 := 64#32
  let c0_i32_529 : BitVec 32 := 0#32
  let v1343 : BitVec 1 := Scalar.cmpi .sgt c64_i32_526 c0_i32_529
  let v1344 : BitVec 32 := Scalar.extui v1343
  let c0_i32_530 : BitVec 32 := 0#32
  let v1345 : BitVec 1 := Scalar.cmpi .slt c64_i32_526 c0_i32_530
  let v1346 : BitVec 32 := Scalar.extui v1345
  let v1347 : BitVec 32 := Scalar.subi v1344 v1346
  let v1348 : BitVec 1 := Scalar.cmpi .ne v1342 v1347
  let v1349 : BitVec 32 := Scalar.remsi v1336 c64_i32_526
  let c0_i32_531 : BitVec 32 := 0#32
  let v1350 : BitVec 1 := Scalar.cmpi .ne v1349 c0_i32_531
  let v1351 : BitVec 1 := Scalar.andi v1348 v1350
  let v1337 : BitVec 32 := Scalar.divsi v1336 c64_i32_526
  let c1_i32_532 : BitVec 32 := 1#32
  let v1352 : BitVec 32 := Scalar.subi v1337 c1_i32_532
  let v1353 : BitVec 32 := Scalar.select v1351 v1352 v1337
  let c64_i32_533 : BitVec 32 := 64#32
  let v1354 : BitVec 32 := Scalar.muli v1353 c64_i32_533
  let v1355 : BitVec 32 := v1354
  let v1356 : Index := Scalar.indexCast v1355
  let c0_534 : Index := 0#32
  ![v1356.toNat, 0]

def k0_chk32 (v1336 : BitVec 32) : Prop :=
  (64 ∣ (k0_mult32 v1336).toNat) ∧
  (∀ a, (k0_off64 v1336) a + S64x256.size a ≤ S100000x256.size a)
theorem k0_mult32_dvd : ∀ (v1336 : BitVec 32) (k0_hw32 : k0_chk32 v1336), 64 ∣ (k0_mult32 v1336).toNat := fun v1336 k0_hw32 => k0_hw32.1
theorem k0_off64_inb : ∀ (v1336 : BitVec 32) (k0_hw32 : k0_chk32 v1336), ∀ a, (k0_off64 v1336) a + S64x256.size a ≤ S100000x256.size a := fun v1336 k0_hw32 => k0_hw32.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S196x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100000x256 .i4 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S196x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1024x256x14x14 : Shape := ⟨4, ![1024, 256, 14, 14]⟩
abbrev S1024 : Shape := ⟨1, ![1024]⟩
abbrev S100000x256 : Shape := ⟨2, ![100000, 256]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x256 : Shape := ⟨2, ![1024, 256]⟩
abbrev S1024x256x1x1 : Shape := ⟨4, ![1024, 256, 1, 1]⟩

abbrev nBuf : Space → Nat
  | .hbm => 30
  | .vmem => 0
  | .smem => 0
  | _ => 0

abbrev bufTy : (tb : Table) → Fin (tcTables nBuf tb) → BufTy
  | .hbm, ⟨0, _⟩ => ⟨S1024x256x14x14, .f32⟩
  | .hbm, ⟨1, _⟩ => ⟨S1024, .i32⟩
  | .hbm, ⟨2, _⟩ => ⟨S100000x256, .i1⟩
  | .hbm, ⟨3, _⟩ => ⟨S_, .i32⟩
  | .hbm, ⟨4, _⟩ => ⟨S1024, .i32⟩
  | .hbm, ⟨5, _⟩ => ⟨S1024, .i1⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S1024x1, .i32⟩
  | .hbm, ⟨11, _⟩ => ⟨S1, .i32⟩
  | .hbm, ⟨12, _⟩ => ⟨S_, .i32⟩
  | .hbm, ⟨13, _⟩ => ⟨S1024x1, .i32⟩
  | .hbm, ⟨14, _⟩ => ⟨S1024x1, .i1⟩
  | .hbm, ⟨15, _⟩ => ⟨S1x1, .i32⟩
  | .hbm, ⟨16, _⟩ => ⟨S1024x1, .i32⟩
  | .hbm, ⟨17, _⟩ => ⟨S1024x1, .i1⟩
  | .hbm, ⟨18, _⟩ => ⟨S1024x1, .i1⟩
  | .hbm, ⟨19, _⟩ => ⟨S_, .i1⟩
  | .hbm, ⟨20, _⟩ => ⟨S1024, .i1⟩
  | .hbm, ⟨21, _⟩ => ⟨S1024x256, .i1⟩
  | .hbm, ⟨22, _⟩ => ⟨S1024x256, .i1⟩
  | .hbm, ⟨23, _⟩ => ⟨S_, .i1⟩
  | .hbm, ⟨24, _⟩ => ⟨S1024x256, .i1⟩
  | .hbm, ⟨25, _⟩ => ⟨S1024x256, .i1⟩
  | .hbm, ⟨26, _⟩ => ⟨S1024x256x1x1, .i1⟩
  | .hbm, ⟨27, _⟩ => ⟨S1024x256x1x1, .f32⟩
  | .hbm, ⟨28, _⟩ => ⟨S1024x256x14x14, .f32⟩
  | .hbm, ⟨29, _⟩ => ⟨S1024x256x14x14, .f32⟩
  | _, _ => ⟨S1024x256x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_c_4 : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩

abbrev nD : Nat := 1
abbrev τ : Topo := Topo.v7x

variable {F : FTy → Type} [FloatOps F]
-- ==== Proof.Words.lean ====
/- The word arithmetic of the kernel body. A body step reads one word `w` of the index array and computes from it the
   first row of the 64-row group of the table that it loads (`w / 64 * 64`), and the amount by which it rotates the group
   (`-(w % 64)`), each through a chain of signed 32-bit operations. Here both chains are evaluated for a word in
   `[0, 2^31)`; the side condition that the body states of the group, that it lies inside the table of 100000 rows, is
   shown to hold for words below 99968 and to fail for the words from 99968 up to `2^31`. -/
module

public import proofs.«01_k».proof.Defs
public import proofs.«01_k».proof.Proof.Gen.Kernel
public import proofs.«01_k».proof.Proof.Gen.KernelIdeal
public import Idealize.ShloMosaic.Lib.WordCmp
public import Idealize.ShloMosaic.Lib.Routing.Words

@[expose] public section

namespace Cert.Dropout

open Idealize.ShloMosaic Idealize.ShloMosaic.WordCmp

/-- The chain that computes a group's first row gives the word of `n / 64 * 64`. -/
theorem mult_ofNat (n : Nat) (h' : n < 2 ^ 31) :
    Cert.KernelIdeal.k0_mult1 (BitVec.ofNat 32 n) = BitVec.ofNat 32 (n / 64 * 64) := by
  have hd : Scalar.divsi (BitVec.ofNat 32 n) 64#32 = BitVec.ofNat 32 (n / 64) := Routing.divsi_word .scalar h' (by decide) (by decide)
  have hr : Scalar.remsi (BitVec.ofNat 32 n) 64#32 = BitVec.ofNat 32 (n % 64) := Routing.remsi_word .scalar h' (by decide) (by decide)
  have hm (a b : Nat) : Scalar.muli (BitVec.ofNat 32 a) (BitVec.ofNat 32 b) = BitVec.ofNat 32 (a * b) := muli_ofNat a b
  have hs : Scalar.andi (Scalar.cmpi .ne (Scalar.subi (Scalar.extui (Scalar.cmpi .sgt (BitVec.ofNat 32 n) 0#32))
      (Scalar.extui (Scalar.cmpi .slt (BitVec.ofNat 32 n) 0#32)))
      (Scalar.subi (Scalar.extui (Scalar.cmpi .sgt 64#32 0#32)) (Scalar.extui (Scalar.cmpi .slt 64#32 0#32))))
      (Scalar.cmpi .ne (BitVec.ofNat 32 (n % 64)) 0#32) = 0#1 := by
    rcases Nat.eq_zero_or_pos n with rfl | hn
    · decide
    · have h1 : Scalar.cmpi .sgt (BitVec.ofNat 32 n) 0#32 = 1#1 := by
        rw [scalar_cmpi_eq, cmpi_sgt_ofNat (by omega) (by decide)]; simp [hn]
      have h2 : Scalar.cmpi .slt (BitVec.ofNat 32 n) 0#32 = 0#1 := by
        rw [scalar_cmpi_eq, cmpi_slt_ofNat (by omega) (by decide)]; simp
      rw [h1, h2]
      generalize Scalar.cmpi .ne (BitVec.ofNat 32 (n % 64)) 0#32 = b
      revert b; decide
  unfold Cert.KernelIdeal.k0_mult1
  dsimp only
  rw [hr, hs, hd, select_zero, hm]

/-- The offset of a group's load: row `n / 64 * 64`, lane 0. -/
theorem off_ofNat (n : Nat) (h : n < 2 ^ 31) :
    Cert.KernelIdeal.k0_off2 (BitVec.ofNat 32 n) = ![n / 64 * 64, 0] := by
  have e : Cert.KernelIdeal.k0_off2 (BitVec.ofNat 32 n) = ![(Cert.KernelIdeal.k0_mult1 (BitVec.ofNat 32 n)).toNat, 0] := rfl
  rw [e, mult_ofNat n h, BitVec.toNat_ofNat, Nat.mod_eq_of_lt (by omega)]

/-- THE SIDE CONDITION HOLDS IN THE RANGE: the group of 64 rows that a word below 99968 selects starts at a multiple of 64
    and lies inside the table. -/
theorem chk_of_lt {w : BitVec 32} (h : w.toNat < 99968) : Cert.KernelIdeal.k0_chk1 w := by
  obtain ⟨n, hn, rfl⟩ : ∃ n, n < 99968 ∧ w = BitVec.ofNat 32 n :=
    ⟨w.toNat, h, by rw [BitVec.ofNat_toNat, BitVec.setWidth_eq]⟩
  unfold Cert.KernelIdeal.k0_chk1
  rw [mult_ofNat n (by omega), off_ofNat n (by omega), BitVec.toNat_ofNat, Nat.mod_eq_of_lt (by omega)]
  refine ⟨⟨n / 64, by omega⟩, fun a => ?_⟩
  fin_cases a
  · show n / 64 * 64 + 64 ≤ 100000
    omega
  · show 0 + 256 ≤ 256
    omega

/-- THE PRECONDITION IS NEEDED: a word from 99968 up, the table's last 32 rows among them, fails the side condition (its
    group of 64 rows ends past the table). -/
theorem not_chk_of_ge {w : BitVec 32} (h : 99968 ≤ w.toNat) (h' : w.toNat < 2 ^ 31) : ¬ Cert.KernelIdeal.k0_chk1 w := by
  obtain ⟨n, hn, rfl⟩ : ∃ n, n < 2 ^ 31 ∧ w = BitVec.ofNat 32 n :=
    ⟨w.toNat, h', by rw [BitVec.ofNat_toNat, BitVec.setWidth_eq]⟩
  rw [BitVec.toNat_ofNat, Nat.mod_eq_of_lt (by omega)] at h
  intro hc
  have h0 := hc.2 0
  rw [off_ofNat n hn] at h0
  have h1 : n / 64 * 64 + 64 ≤ 100000 := h0
  omega

/-- The amount by which the body rotates the group that it loaded for the word `w`: the remainder of `w` by 64, taken with
    the sign of the divisor, subtracted from zero. -/
def amount (w : BitVec 32) : BitVec 32 :=
  let d : BitVec 32 := Scalar.select (Scalar.cmpi .eq 64#32 0#32) 1#32 64#32
  let r : BitVec 32 := Scalar.remsi w d
  Scalar.subi 0#32 (Scalar.select
    (Scalar.andi (Scalar.xori (Scalar.cmpi .slt r 0#32) (Scalar.cmpi .slt d 0#32)) (Scalar.cmpi .ne r 0#32)) (Scalar.addi r d) r)

/-- For the word of `n`, rotating by the amount moves row `n % 64` of a group of 64 rows to row 0. -/
theorem amount_ofNat (n : Nat) (h : n < 2 ^ 31) : (64 - (amount (BitVec.ofNat 32 n)).toNat % 64) % 64 = n % 64 := by
  have hd : Scalar.select (Scalar.cmpi .eq 64#32 0#32) 1#32 64#32 = 64#32 := by decide
  have hr : Scalar.remsi (BitVec.ofNat 32 n) 64#32 = BitVec.ofNat 32 (n % 64) := Routing.remsi_word .scalar h (by decide) (by decide)
  unfold amount
  dsimp only
  rw [hd, hr]
  have hk : n % 64 < 64 := Nat.mod_lt _ (by decide)
  generalize n % 64 = k at hk
  revert k
  decide

/-- The precondition's predicate decoded at one entry of the index array: the word there is below 99968. -/
theorem word_lt [Cert.Pre_groups_inside_table.Facts] {F : FTy → Type} [FloatOps F]
    (x : FVec F Cert.Pre_groups_inside_table.S1024x256x14x14 .f32) (idx : IVec Cert.Pre_groups_inside_table.S1024 32)
    (tab : IVec Cert.Pre_groups_inside_table.S100000x256 1)
    (h : Cert.Pre_groups_inside_table.fn x idx tab = fun _ => 1#1) (b : Cert.Pre_groups_inside_table.S1024.Idx) :
    (idx b).toNat < 99968 := by
  have e := congrFun h b
  simp only [Cert.Pre_groups_inside_table.fn, andi, cmpi, broadcastInDim, constantI, IntOp.cmpi, andi_ofBool,
    ofBool_eq_one_iff, Bool.and_eq_true] at e
  obtain ⟨hge, hlt⟩ := e
  simp only [BitVec.sle, BitVec.slt, decide_eq_true_eq, BitVec.toInt, BitVec.toNat_ofNat] at hge hlt
  omega

/-- The precondition's predicate takes one shape relation, decided. -/
theorem preFacts : Cert.Pre_groups_inside_table.Facts where
  bcast_S_S1024 := by decide

end Cert.Dropout
-- ==== Proof.Sides.lean ====
/- The two hypotheses under which the frames of the two programs are stated, from the precondition: the pipeline's side
   condition of the prefetched table, which is `True` (no window's index map reads the table), and the 32 side conditions
   that each grid point's body states of the 32 words it reads (`chk_of_lt`). -/
module

public import proofs.«01_k».proof.Proof.Words
public import proofs.«01_k».proof.Proof.Gen.Kernel.Frame
public import proofs.«01_k».proof.Proof.Gen.KernelIdeal.Frame

@[expose] public section

namespace Cert.Dropout

open Idealize.ShloMosaic Idealize.ShloMosaic.TcCoe

section Kernel
open Cert.Kernel Cert.Kernel.Gen

/-- A word that the body of `Kernel` loads from the index array is an entry of the array, so it is below 99968 when all are. -/
theorem loaded_lt_kernel (m : (ℓ : Loc nD τ sig) → Buf (Elt Bits) ℓ) (h : ∀ b, (m (((0 : Dev nD) : Thread nD τ).loc main_arg1) b).toNat < 99968)
    (off : Fin 1 → Nat) (inb : ∀ a, off a + S1.size a ≤ S1024.size a) (x : S1.Idx) :
    (tbM0_0.view.readAt (Elt Bits) (Rect.unit (s := S1024) off S1.size inb).toLoadRect (tbl m 0) x).toNat < 99968 := by
  have e : tbl m 0 = m (((0 : Dev nD) : Thread nD τ).loc main_arg1) := V_main_arg1 m 0
  rw [e]
  exact h _

/-- `Kernel`'s side conditions hold at every grid point. -/
theorem hyps_kernel (m : (ℓ : Loc nD τ sig) → Buf (Elt Bits) ℓ) (hO : Ok m)
    (h : ∀ b, (m (((0 : Dev nD) : Thread nD τ).loc main_arg1) b).toNat < 99968) : Hyps m hO := by
  intro c t
  iterate 31 refine And.intro (chk_of_lt (loaded_lt_kernel m h _ _ _)) ?_
  exact chk_of_lt (loaded_lt_kernel m h _ _ _)

end Kernel

section KernelIdeal
open Cert.KernelIdeal Cert.KernelIdeal.Gen

/-- A word that the body of `KernelIdeal` loads from the index array is an entry of the array, so it is below 99968 when all are. -/
theorem loaded_lt (m : (ℓ : Loc nD τ sig) → Buf (Elt Ideal) ℓ) (h : ∀ b, (m (((0 : Dev nD) : Thread nD τ).loc main_arg1) b).toNat < 99968)
    (off : Fin 1 → Nat) (inb : ∀ a, off a + S1.size a ≤ S1024.size a) (x : S1.Idx) :
    (tbM0_0.view.readAt (Elt Ideal) (Rect.unit (s := S1024) off S1.size inb).toLoadRect (tbl m 0) x).toNat < 99968 := by
  have e : tbl m 0 = m (((0 : Dev nD) : Thread nD τ).loc main_arg1) := V_main_arg1 m 0
  rw [e]
  exact h _

/-- `KernelIdeal`'s side conditions hold at every grid point. -/
theorem hyps_ideal (m : (ℓ : Loc nD τ sig) → Buf (Elt Ideal) ℓ) (hO : Ok m)
    (h : ∀ b, (m (((0 : Dev nD) : Thread nD τ).loc main_arg1) b).toNat < 99968) : Hyps m hO := by
  intro c t
  iterate 31 refine And.intro (chk_of_lt (loaded_lt m h _ _ _)) ?_
  exact chk_of_lt (loaded_lt m h _ _ _)

end KernelIdeal

end Cert.Dropout
-- ==== Proof.Rows.lean ====
/- The row of the mask table that one of a body step's 32 turns puts into its scratch buffer. A turn loads the group of 64
   rows that holds the wanted row, turns its 4-bit words into reals, rotates the group until the wanted row comes first,
   and keeps that row. -/
module

public import proofs.«01_k».proof.Proof.Words
public import proofs.«01_k».proof.Proof.Gen.KernelIdeal.Skeleton
public import Idealize.ShloMosaic.Lib.KernelVsHost
public import Idealize.ShloMosaic.Lib.Pointwise

@[expose] public section

noncomputable section

namespace Cert.Dropout

open Idealize.ShloMosaic Cert.KernelIdeal Cert.KernelIdeal.Gen

/-- What a turn keeps of the group `g` that it loaded for the word of `n`: row `n % 64`, each of its 4-bit words read as a
    signed integer. -/
theorem row_apply (n : Nat) (h : n < 2 ^ 31) (g : Vec Ideal S64x256 .i4) (l : Fin 256) :
    k0_pay14 (F := Ideal) (BitVec.ofNat 32 n) g (ix2 (0 : Fin 1) l)
      = (((g (ix2 (⟨n % 64, Nat.mod_lt _ (by decide)⟩ : Fin 64) l)).toInt : ℝ) : EReal) := by
  have e : k0_pay14 (F := Ideal) (BitVec.ofNat 32 n) g
      = extractStridedSlice S1x256 ![0, 0] (dynamicRotate 0 (amount (BitVec.ofNat 32 n)) none (sitofp (F := Ideal) .f32 g)
          rotates_S64x256_d0) slices_S64x256_o0_0_S1x256 := by
    unfold k0_pay14
    dsimp only
    rw [shapeCast_shapeCast, shapeCast_self]
    rfl
  rw [e, extractStridedSlice_apply _ _ _ _ (ix2 (0 : Fin 64) l) (by intro a; fin_cases a <;> simp [ix2]),
    dynamicRotate_apply _ _ _ _ _ (ix2 (⟨n % 64, Nat.mod_lt _ (by decide)⟩ : Fin 64) l) (by
      intro a
      fin_cases a
      · have := amount_ofNat n h
        show n % 64 = (0 + 64 - (amount (BitVec.ofNat 32 n)).toNat % 64) % 64
        omega
      · rfl)]
  rfl

end Cert.Dropout
-- ==== Proof.Block.lean ====
/- What the body leaves in the result's staging buffer at a grid point: the block of the transposed input that the point
   takes, each of its 32 columns multiplied by the row of the mask table that the index array names for it. -/
module

public import proofs.«01_k».proof.Proof.Rows
public import proofs.«01_k».proof.Proof.Sides
public import Idealize.ShloMosaic.Lib.Pipeline.Value

@[expose] public section

set_option maxRecDepth 16384

noncomputable section

namespace Cert.Dropout

open Idealize.ShloMosaic Idealize.ShloMosaic.TcCoe Cert.KernelIdeal Cert.KernelIdeal.Gen

variable (m : (ℓ : Loc nD τ sig) → Buf (Elt Ideal) ℓ)

/-! ## The words -/

/-- The place in the index array of the word that turn `k` of grid point `i` reads, as the body computes it. -/
def wordOff (i : grid0.Coords) (k : Fin 32) : Fin 1 → Nat :=
  ![(Scalar.addi (Scalar.muli (BitVec.ofNat 32 (i 0).val) 32#32) (BitVec.ofNat 32 k.val)).toNat]

/-- A grid point's coordinate is below 32. -/
theorem coord_lt (i : grid0.Coords) : (i 0).val < 32 := (i 0).isLt

/-- It is place `32 * i + k`. -/
theorem wordOff_eq (i : grid0.Coords) (k : Fin 32) : wordOff i k = ![32 * (i 0).val + k.val] := by
  have h := coord_lt i
  have e : Scalar.addi (Scalar.muli (BitVec.ofNat 32 (i 0).val) 32#32) (BitVec.ofNat 32 k.val)
      = BitVec.ofNat 32 ((i 0).val * 32 + k.val) :=
    (congrArg (IntOp.addi · _) (WordCmp.muli_ofNat _ _)).trans (WordCmp.addi_ofNat _ _)
  unfold wordOff
  rw [e, BitVec.toNat_ofNat, Nat.mod_eq_of_lt (by omega), Nat.mul_comm]

/-- That place is inside the index array. -/
theorem wordOff_inb (i : grid0.Coords) (k : Fin 32) (a : Fin 1) : wordOff i k a + S1.size a ≤ S1024.size a := by
  have h := coord_lt i
  rw [wordOff_eq]
  fin_cases a
  show 32 * (i 0).val + k.val + 1 ≤ 1024
  omega

/-- The position in the batch that turn `k` of grid point `i` works on. -/
def spot (i : grid0.Coords) (k : Fin 32) : Fin 1024 := ⟨32 * (i 0).val + k.val, by have := coord_lt i; omega⟩

/-- The word that turn `k` of grid point `i` reads from the index array. -/
def word (i : grid0.Coords) (k : Fin 32) : BitVec 32 :=
  tbM0_0.view.readAt (Elt Ideal) (Rect.unit (s := S1024) (wordOff i k) S1.size (wordOff_inb i k)).toLoadRect (tbl m 0)
    (Shape.Idx.first (numel1_S1.symm ▸ Nat.one_pos))

/-- It is the index array's entry at that position. -/
theorem word_eq (i : grid0.Coords) (k : Fin 32) :
    word m i k = (m (((0 : Dev nD) : Thread nD τ).loc main_arg1) : S1024.Idx → BitVec 32) (ix1 (spot i k)) := by
  unfold word
  rw [show tbl m 0 = m (((0 : Dev nD) : Thread nD τ).loc main_arg1) from V_main_arg1 m 0]
  refine congrArg (m (((0 : Dev nD) : Thread nD τ).loc main_arg1) : S1024.Idx → BitVec 32) (funext fun a => Fin.ext ?_)
  fin_cases a
  show wordOff i k 0 + 0 * 1 = 32 * (i 0).val + k.val
  rw [wordOff_eq]
  rfl

/-! ## The pieces of the scratch buffer -/

/-- What turn `k` writes into the scratch buffer: row `k`, from the group of the table `x1` that its word selects. -/
def piece (i : grid0.Coords) (arg3 : Memref sig .tc .vmem S100000x256 .i4) (harg3 : arg3.IsWhole) (x1 : Vec Ideal S100000x256 .i4)
    (h : ∀ k, k0_chk1 (word m i k)) (k : Fin 32) : View.Piece (Elt Ideal) S32x256 .f32 :=
  ⟨Rect.unit (s := S32x256) ![k.val, 0] S1x256.size (by
      intro a
      fin_cases a
      · show k.val + 1 ≤ 32
        omega
      · exact Nat.le_refl 256),
    k0_pay14 (word m i k) (arg3.view.readAt (Elt Ideal)
      (Rect.unit (s := S100000x256) (k0_off2 (word m i k)) S64x256.size (h k).2).toLoadRect (harg3.unread x1))⟩

/-- The pieces, last first. -/
def pieces (i : grid0.Coords) (arg3 : Memref sig .tc .vmem S100000x256 .i4) (harg3 : arg3.IsWhole) (x1 : Vec Ideal S100000x256 .i4)
    (h : ∀ k, k0_chk1 (word m i k)) : List (View.Piece (Elt Ideal) S32x256 .f32) :=
  ([31, 30, 29, 28, 27, 26, 25, 24, 23, 22, 21, 20, 19, 18, 17, 16, 15, 14, 13, 12, 11, 10, 9, 8, 7, 6, 5, 4, 3, 2, 1, 0] : List (Fin 32)).map (piece m i arg3 harg3 x1 h)

/-- THE BODY'S RESULT AS THE RUN LEAVES IT: one store of the product of the input's block by the scratch buffer read back,
    the scratch buffer holding the 32 pieces. -/
theorem outsAt_eq (hO : Ok m) (hH : Hyps m hO) (c : Dev nD) (t : Fin (cfgM m hO).N)
    (h : ∀ k, k0_chk1 (word m (grid0.coords t) k)) :
    outsAt0 m hO hH c t = View.canon [⟨Rect.unit (s := S196x32x256) ![0, 0, 0] S196x32x256.size inb_S196x32x256_S196x32x256_0_0_0,
      k0_pay49 ((ms0_0 m hO t).view.readAt (Elt Ideal)
          (Rect.unit (s := S196x32x256) ![0, 0, 0] S196x32x256.size inb_S196x32x256_S196x32x256_0_0_0).toLoadRect
          ((hs0_0 m hO t).unread (iblk m hO c 0 t)))
        (scM0_0.view.readCov (pieces m (grid0.coords t) (ms0_1 m hO t) (hs0_1 m hO t) (iblk m hO c 1 t) h)
          (Rect.unit (s := S32x256) ![0, 0] S32x256.size inb_S32x256_S32x256_0_0).toLoadRect)⟩] := by
  unfold outsAt0 out0_A_2
  refine (View.read_writes_junk_eq_canon _ _).trans ?_
  unfold kernelRun0_A
  dsimp only
  rfl

/-! ## The block at an index -/

/-- The table's row that a word names: the word as a natural number (reduced, so that every word names some row; the words
    met below are all in range). -/
def rowOf (w : BitVec 32) : Fin 100000 := ⟨w.toNat % 100000, Nat.mod_lt _ (by decide)⟩

/-- Every word the kernel reads is below 99968, when the index array's are. -/
theorem word_small (hw : ∀ b, ((m (((0 : Dev nD) : Thread nD τ).loc main_arg1) : S1024.Idx → BitVec 32) b).toNat < 99968)
    (i : grid0.Coords) (k : Fin 32) : (word m i k).toNat < 99968 := by
  rw [word_eq]
  exact hw _

/-- A load of 64 rows at row `n / 64 * 64` holds row `n` of the table at its row `n % 64`. -/
theorem group_apply (arg3 : Memref sig .tc .vmem S100000x256 .i4) (harg3 : arg3.IsWhole) (x1 : Vec Ideal S100000x256 .i4)
    (n : Nat) (hn : n < 100000) (off : Fin 2 → Nat) (e : off = ![n / 64 * 64, 0])
    (inb : ∀ a, off a + S64x256.size a ≤ S100000x256.size a) (l : Fin 256) :
    arg3.view.readAt (Elt Ideal) (Rect.unit (s := S100000x256) off S64x256.size inb).toLoadRect (harg3.unread x1)
        (ix2 (⟨n % 64, Nat.mod_lt _ (by decide)⟩ : Fin 64) l)
      = x1 (ix2 (⟨n, hn⟩ : Fin 100000) l) := by
  subst e
  rw [View.readAt_eq_ld, harg3.read_unread]
  refine congrArg x1 (funext fun a => Fin.ext ?_)
  fin_cases a
  · show n / 64 * 64 + 1 * (n % 64) = n
    omega
  · show 0 + 1 * l.val = l.val
    omega

/-- A piece read at lane `l`: the table's entry in the row that the turn's word names, as a real. -/
theorem piece_apply (i : grid0.Coords) (arg3 : Memref sig .tc .vmem S100000x256 .i4) (harg3 : arg3.IsWhole)
    (x1 : Vec Ideal S100000x256 .i4) (w : BitVec 32) (hw : w.toNat < 99968) (inb) (l : Fin 256) :
    k0_pay14 (F := Ideal) w (arg3.view.readAt (Elt Ideal)
        (Rect.unit (s := S100000x256) (k0_off2 w) S64x256.size inb).toLoadRect (harg3.unread x1)) (ix2 (0 : Fin 1) l)
      = (((x1 (ix2 (rowOf w) l)).toInt : ℝ) : EReal) := by
  obtain ⟨n, hn, rfl⟩ : ∃ n, n < 99968 ∧ w = BitVec.ofNat 32 n :=
    ⟨w.toNat, hw, by rw [BitVec.ofNat_toNat, BitVec.setWidth_eq]⟩
  refine (row_apply n (by omega) _ l).trans ?_
  rw [group_apply arg3 harg3 x1 n (by omega) _ (off_ofNat n (by omega)) inb l]
  have e : rowOf (BitVec.ofNat 32 n) = ⟨n, by omega⟩ := Fin.ext (by
    show (BitVec.ofNat 32 n).toNat % 100000 = n
    rw [BitVec.toNat_ofNat]
    omega)
  rw [e]

/-- The scratch buffer after the 32 turns, at row `k` and lane `l`. -/
theorem pieces_apply (i : grid0.Coords) (arg3 : Memref sig .tc .vmem S100000x256 .i4) (harg3 : arg3.IsWhole)
    (x1 : Vec Ideal S100000x256 .i4) (h : ∀ k, k0_chk1 (word m i k)) (hk : ∀ k, (word m i k).toNat < 99968) (k : Fin 32) (l : Fin 256) :
    View.canon (pieces m i arg3 harg3 x1 h) (ix2 k l)
      = (((x1 (ix2 (rowOf (word m i k)) l)).toInt : ℝ) : EReal) := by
  refine View.canon_apply_of_pieces
    (fun y : S32x256.Idx => ((((x1 (ix2 (rowOf (word m i (y 0))) (y 1))).toInt : ℝ) : EReal)))
    (pieces m i arg3 harg3 x1 h) ?_ (ix2 k l) ?_
  · intro p hp
    obtain ⟨k, -, rfl⟩ := List.mem_map.mp hp
    intro (x : S1x256.Idx)
    obtain ⟨l, rfl⟩ : ∃ l : Fin 256, x = ix2 (0 : Fin 1) l :=
      ⟨x 1, by funext a; fin_cases a; exacts [Subsingleton.elim (α := Fin 1) _ _, rfl]⟩
    refine (piece_apply i arg3 harg3 x1 (word m i k) (hk k) (h k).2 l).trans ?_
    have e : ((piece m i arg3 harg3 x1 h k).1.emb : S1x256.Idx → S32x256.Idx) (ix2 (0 : Fin 1) l) = ix2 k l := by
      funext a
      refine Fin.ext ?_
      fin_cases a
      · show k.val + 1 * 0 = k.val
        omega
      · show 0 + 1 * l.val = l.val
        omega
    exact (congrArg (fun y : S32x256.Idx => ((((x1 (ix2 (rowOf (word m i (y 0))) (y 1))).toInt : ℝ) : EReal))) e).symm
  · refine ⟨piece m i arg3 harg3 x1 h k, List.mem_map.mpr ⟨k, by revert k; decide, rfl⟩, ?_⟩
    unfold piece
    dsimp only
    rw [Rect.mem_set_unit]
    intro a
    fin_cases a
    · exact ⟨Nat.le_refl k.val, Nat.lt_succ_self k.val⟩
    · exact ⟨Nat.zero_le _, by show l.val < 0 + 256; omega⟩

/-- The body's product at an index: the block's entry times the scratch buffer's in that column and lane. -/
theorem product_apply (x : FVec Ideal S196x32x256 .f32) (b : FVec Ideal S32x256 .f32) (p : Fin 196) (k : Fin 32) (l : Fin 256) :
    k0_pay49 (F := Ideal) x b (ix3 p k l) = (x (ix3 p k l) * b (ix2 k l) : EReal) := by
  unfold k0_pay49
  rw [shapeCast_self]
  refine congrArg (fun z : EReal => (x (ix3 p k l) * z : EReal)) ?_
  rw [broadcastTo_apply _ _ (ix3 p k l) (ix3 (0 : Fin 1) k l) (by intro a; fin_cases a <;> rfl)]
  exact shapeCast_apply _ _ (ix3 (0 : Fin 1) k l) (ix2 k l) (by simp [rowMajor_val2, rowMajor_val3])

/-- THE BLOCK: at position `p`, column `k` and lane `l`, the input's entry there times the table's entry in lane `l` of the
    row that the index array names for the column. -/
theorem outsAt_apply (hw : ∀ b, ((m (((0 : Dev nD) : Thread nD τ).loc main_arg1) : S1024.Idx → BitVec 32) b).toNat < 99968)
    (hO : Ok m) (hH : Hyps m hO) (c : Dev nD) (t : Fin (cfgM m hO).N)
    (x : FVec Ideal S196x32x256 .f32) (hx : iblk m hO c 0 t = x) (x1 : Vec Ideal S100000x256 .i4) (hx1 : iblk m hO c 1 t = x1)
    (p : Fin 196) (k : Fin 32) (l : Fin 256) :
    outsAt0 m hO hH c t (ix3 p k l)
      = (x (ix3 p k l) * (((x1 (ix2 (rowOf ((m (((0 : Dev nD) : Thread nD τ).loc main_arg1) : S1024.Idx → BitVec 32)
            (ix1 (spot (grid0.coords t) k)))) l)).toInt : ℝ) : EReal) : EReal) := by
  have hk := word_small m hw (grid0.coords t)
  have h : ∀ k, k0_chk1 (word m (grid0.coords t) k) := fun k => chk_of_lt (hk k)
  rw [outsAt_eq m hO hH c t h, hx, hx1, View.canon_unit_zero (by decide), View.readCov_eq_canon', View.readAt_eq_ld,
    (hs0_0 m hO t).read_unread, View.ld_unit_zero (by decide), product_apply, ← word_eq m,
    ← pieces_apply m (grid0.coords t) (ms0_1 m hO t) (hs0_1 m hO t) x1 h hk k l]
  refine congrArg (fun z : S32x256.Idx => (x (ix3 p k l) *
    (View.canon (pieces m (grid0.coords t) (ms0_1 m hO t) (hs0_1 m hO t) x1 h) z : EReal) : EReal)) (funext fun a => Fin.ext ?_)
  fin_cases a
  · show 0 + 1 * k.val = k.val
    omega
  · show 0 + 1 * l.val = l.val
    omega

end Cert.Dropout
-- ==== Proof.Array.lean ====
/- The kernel's run, read: the pipeline's result array holds, at every position, batch entry and channel, the transposed
   input's entry times the mask table's entry in the row that the index array names for the batch entry; and the program's
   result is that array with its axes put back. -/
module

public import proofs.«01_k».proof.Proof.Block
public import Idealize.ShloMosaic.Lib.Pipeline.ValueKit.Geometry
public import Idealize.ShloMosaic.Lib.StableHlo.Run

@[expose] public section

noncomputable section

namespace Cert.Dropout

open Idealize.ShloMosaic Idealize.ShloMosaic.TcCoe Idealize.SL.Sem Cert.KernelIdeal Cert.KernelIdeal.Gen

variable (m : (ℓ : Loc nD τ sig) → Buf (Elt Ideal) ℓ)

/-! ## What the host operations before the launch leave -/

/-- The launch's input: the argument with its two spatial axes first, and merged. -/
theorem V_v1 (c : Dev nD) : (V m c main_v1 : S196x1024x256.Idx → EReal)
    = shapeCast S196x1024x256 (transpose S14x14x1024x256 [2, 3, 0, 1]
        (m ((c : Thread nD τ).loc main_arg0) : S1024x256x14x14.Idx → EReal) transposes_S1024x256x14x14_S14x14x1024x256_2_3_0_1)
        shapeCasts_S14x14x1024x256_S196x1024x256 := by
  unfold V V0
  simp only [hostOps0, List.flatten_cons, List.flatten_nil, List.append_nil]
  after_results
  rfl

/-- The launch's table: the argument's bits as 4-bit words. -/
theorem V_v2 (c : Dev nD) : (V m c main_v2 : S100000x256.Idx → BitVec 4)
    = extui 4 (m ((c : Thread nD τ).loc main_arg2) : S100000x256.Idx → BitVec 1) natLt_1_4 := by
  unfold V V0
  simp only [hostOps0, List.flatten_cons, List.flatten_nil, List.append_nil]
  after_results

/-! ## The blocks -/

/-- Grid point `t`'s coordinate is `t`. -/
theorem coords_val : ∀ t : Fin grid0.N, (grid0.coords t 0).val = t.val := by decide

/-- Point `t`'s block of the input holds columns `32 * t` to `32 * t + 31`. -/
theorem iblk_input (hO : Ok m) (c : Dev nD) (t : Fin (cfgM m hO).N) (p : Fin 196) (k : Fin 32) (l : Fin 256) :
    (iblk m hO c 0 t : S196x32x256.Idx → EReal) (ix3 p k l)
      = (V m c main_v1 : S196x1024x256.Idx → EReal) (ix3 p (spot (grid0.coords t) k) l) := by
  refine congrArg (V m c main_v1 : S196x1024x256.Idx → EReal) (funext fun a => Fin.ext ?_)
  have h := coord_lt (grid0.coords t)
  fin_cases a
  · show 0 * 196 + 1 * p.val = p.val
    omega
  · show (BitVec.ofNat 32 (grid0.coords t 0).val).toNat * 32 + 1 * k.val = 32 * (grid0.coords t 0).val + k.val
    rw [BitVec.toNat_ofNat, Nat.mod_eq_of_lt (by omega)]
    omega
  · show 0 * 256 + 1 * l.val = l.val
    omega

/-- Every point's block of the table is the whole table. -/
theorem iblk_table (hO : Ok m) (c : Dev nD) (t : Fin (cfgM m hO).N) :
    (iblk m hO c 1 t : S100000x256.Idx → BitVec 4) = V m c main_v2 := by
  funext (j : S100000x256.Idx)
  refine congrArg (V m c main_v2 : S100000x256.Idx → BitVec 4) (funext fun a => Fin.ext ?_)
  fin_cases a
  · show 0 * 100000 + 1 * (j 0).val = (j 0).val
    omega
  · show 0 * 256 + 1 * (j 1).val = (j 1).val
    omega

/-! ## The result array -/

/-- An input with its spatial axes merged and first, each entry multiplied by the entry of the 4-bit table in its channel
    and in the row that `idx` names for its batch entry. -/
def masked (x : S196x1024x256.Idx → EReal) (idx : S1024.Idx → BitVec 32) (tab : S100000x256.Idx → BitVec 4) :
    S196x1024x256.Idx → EReal := fun y =>
  x y * (((tab (ix2 (rowOf (idx (ix1 (y 1)))) (y 2))).toInt : ℝ) : EReal)

/-- What the result array ends holding. -/
def array (c : Dev nD) : S196x1024x256.Idx → EReal :=
  masked (V m c main_v1) (m (((0 : Dev nD) : Thread nD τ).loc main_arg1)) (V m c main_v2)

/-- What point `t` writes back, at an index of its block. -/
theorem after_apply (hw : ∀ b, ((m (((0 : Dev nD) : Thread nD τ).loc main_arg1) : S1024.Idx → BitVec 32) b).toNat < 99968)
    (hO : Ok m) (hH : Hyps m hO) (c : Dev nD) (t : Fin (cfgM m hO).N) (y : S196x32x256.Idx) :
    (outsAt0 m hO hH c t : S196x32x256.Idx → EReal) y = array m c (ix3 (y 0) (spot (grid0.coords t) (y 1)) (y 2)) := by
  obtain ⟨p, k, l, rfl⟩ : ∃ (p : Fin 196) (k : Fin 32) (l : Fin 256), y = ix3 p k l :=
    ⟨y 0, y 1, y 2, by funext a; fin_cases a <;> rfl⟩
  refine (outsAt_apply m hw hO hH c t _ rfl _ rfl p k l).trans ?_
  rw [iblk_table m hO c t]
  exact congrArg (fun z : EReal => (z * _ : EReal)) (iblk_input m hO c t p k l)

/-- THE RESULT ARRAY: every index lies in the block of the point that takes its batch entry. -/
theorem arr_eq (hw : ∀ b, ((m (((0 : Dev nD) : Thread nD τ).loc main_arg1) : S1024.Idx → BitVec 32) b).toNat < 99968)
    (hO : Ok m) (hH : Hyps m hO) (c : Dev nD) :
    (dats m hO hH 0 c).arrAt 2 (cfgM m hO).N = array m c := by
  refine (dats m hO hH 0 c).arrAt_eq_of_emb 2 (array m c) (fun t _ (y : S196x32x256.Idx) => ?_)
    (fun (i : S196x1024x256.Idx) => ?_)
  · rw [after0_2]
    have h := coord_lt (grid0.coords t)
    have ho := after_apply m hw hO hH c t
    generalize outsAt0 m hO hH c t = o at ho
    generalize array m c = g at ho
    refine (ho y).trans (congrArg g (funext fun a => Fin.ext ?_))
    fin_cases a
    · show (y 0).val = 0 * 196 + 1 * (y 0).val
      omega
    · show 32 * (grid0.coords t 0).val + (y 1).val = (BitVec.ofNat 32 (grid0.coords t 0).val).toNat * 32 + 1 * (y 1).val
      rw [BitVec.toNat_ofNat, Nat.mod_eq_of_lt (by omega)]
      omega
    · show (y 2).val = 0 * 256 + 1 * (y 2).val
      omega
  · have h0 : (i 0 : Nat) < 196 := (i 0).isLt
    have h1 : (i 1 : Nat) < 1024 := (i 1).isLt
    have h2 : (i 2 : Nat) < 256 := (i 2).isLt
    let t : Fin grid0.N := ⟨(i 1 : Nat) / 32, by rw [N_0]; omega⟩
    have ht : (grid0.coords t 0).val = (i 1 : Nat) / 32 := coords_val t
    refine ⟨t, flush0_2 _ t, ?_⟩
    refine (Finset.ext_iff.mp (View.set_slice_whole main_v3 (((cfgM m hO).win 2).rect t)) i).mpr ?_
    refine (Rect.mem_set_unit (s := S196x1024x256)).mpr fun a => ?_
    fin_cases a
    · show 0 * 196 ≤ (i 0 : Nat) ∧ (i 0 : Nat) < 0 * 196 + 196
      omega
    · show (BitVec.ofNat 32 (grid0.coords t 0).val).toNat * 32 ≤ (i 1 : Nat)
        ∧ (i 1 : Nat) < (BitVec.ofNat 32 (grid0.coords t 0).val).toNat * 32 + 32
      rw [ht, BitVec.toNat_ofNat, Nat.mod_eq_of_lt (by omega)]
      omega
    · show 0 * 256 ≤ (i 2 : Nat) ∧ (i 2 : Nat) < 0 * 256 + 256
      omega

/-! ## The program's result -/

/-- The result: the array with the spatial axis split and put last. -/
def result (c : Dev nD) : S1024x256x14x14.Idx → EReal :=
  transpose S1024x256x14x14 [2, 3, 0, 1] (shapeCast S14x14x1024x256 (array m c) shapeCasts_S196x1024x256_S14x14x1024x256)
    transposes_S14x14x1024x256_S1024x256x14x14_2_3_0_1

/-- The host operations after the launch, from the result array. -/
theorem tail_eq (hw : ∀ b, ((m (((0 : Dev nD) : Thread nD τ).loc main_arg1) : S1024.Idx → BitVec 32) b).toNat < 99968)
    (hO : Ok m) (hH : Hyps m hO) (c : Dev nD) :
    Pipeline.afterTail pcfgs (fun _ => adm m hO) (dats m hO hH) 0 (V0 m) [hostOps1] c main_v5 = result m c := by
  unfold Pipeline.afterTail
  simp only [hostOps1, List.flatten_cons, List.flatten_nil, List.append_nil]
  after_results
  have e := Pipeline.withArrays_arr spec0 (by decide) c (V0 m c) (fun w => (dats m hO hH 0 c).arrAt w (cfgM m hO).N) 2
  unfold result
  rw [arr_eq m hw hO hH c] at e
  exact congrArg (fun z : S196x1024x256.Idx → EReal => transpose S1024x256x14x14 [2, 3, 0, 1]
    (shapeCast S14x14x1024x256 z shapeCasts_S196x1024x256_S14x14x1024x256)
    transposes_S14x14x1024x256_S1024x256x14x14_2_3_0_1) e

/-- THE RUN: from any memory whose index words are below 99968, the program ends with its result at `result` and its
    arguments unchanged. -/
theorem run (ρ : Dev nD → PrngReg)
    (hw : ∀ b, ((m (((0 : Dev nD) : Thread nD τ).loc main_arg1) : S1024.Idx → BitVec 32) b).toNat < 99968) :
    θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have hO : Ok m := trivial
  have hH : Hyps m hO := hyps_ideal m hO hw
  refine (θ_run defs _ _).mono (fun r h c => ⟨?_, h.2 c⟩) (θ_run_and (run_main m ρ hO hH) (unchanged m ρ hO hH))
  exact ((h.1 c).2 main_v5 (show main_v5 ∈ Pipeline.restRefs sig spec0 by decide)).trans (tail_eq m hw hO hH c)

end Cert.Dropout
-- ==== Proof.Reference.lean ====
/- The reference's run, read: for index words below 99968 the reference's result is the input with every entry multiplied
   by the mask's bit for its channel, in the row that the index array names for its batch entry. -/
module

public import proofs.«01_k».proof.Proof.Block
public import proofs.«01_k».proof.Proof.Gen.ReferenceIdeal
public import proofs.«01_k».proof.Proof.Gen.ReferenceIdeal.Run
public import Idealize.ShloMosaic.Lib.Pipeline.Value
public import Idealize.ShloMosaic.Lib.Routing.Ops

@[expose] public section

noncomputable section

namespace Cert.Dropout

open Idealize.ShloMosaic Idealize.ShloMosaic.TcCoe Idealize.ShloMosaic.WordCmp Idealize.SL.Sem
open Cert.ReferenceIdeal Cert.ReferenceIdeal.Gen

/-- The input with every entry multiplied by the mask's bit, as a real number, in its channel and in the row that `idx`
    names for its batch entry. -/
def dropped (x : S1024x256x14x14.Idx → EReal) (idx : S1024.Idx → BitVec 32) (tab : S100000x256.Idx → BitVec 1) :
    S1024x256x14x14.Idx → EReal := fun i =>
  x i * (((tab (ix2 (rowOf (idx (ix1 (i 0)))) (i 1))).toNat : ℝ) : EReal)

/-- The wrap of negative indices leaves words below 99968 as they are. -/
theorem wrapped_eq (idx : IVec S1024 32) (hw : ∀ b, (idx b).toNat < 99968) (z n : IVec S1024 32) (hz : z = fun _ => 0#32) :
    select (cmpi .slt idx z) (addi idx n) idx = idx := by
  subst hz
  funext b
  have h := hw b
  have e : cmpi .slt idx (fun _ => 0#32) b = 0#1 := by
    show BitVec.ofBool ((idx b).slt 0#32) = 0#1
    have : (idx b).slt 0#32 = false := by
      simp only [BitVec.slt, decide_eq_false_iff_not, BitVec.toInt, BitVec.toNat_ofNat]
      omega
    rw [this]; rfl
  show Scalar.select (cmpi .slt idx (fun _ => 0#32) b) _ _ = _
  rw [e]
  exact select_zero _ _

/-- Column `b` of the start indices is word `b`. -/
theorem column_apply (idx : IVec S1024 32) (i : S1024x1.Idx) :
    broadcastInDim S1024x1 ![0] bcast_S1024_S1024x1_0 idx i = idx (ix1 (i 0)) :=
  Idealize.ShloMosaic.broadcastInDim_apply _ _ _ _ _ (fun a => by fin_cases a; rfl)

/-- A conjunction over one axis of bits that are all one is one. -/
theorem all_one (x : IVec S1024x1 1) (h : ∀ i, x i = 1#1) (b : S1024.Idx) :
    Host.reduce IntOp.andi x (constantI S_ 1 1#1) reducesTo_S1024x1_S1024_d1 h_S_ b = 1#1 := by
  rw [Host.reduce_eq_fold]
  refine Finset.induction_on (motive := fun S : Finset S1024x1.Idx => S.fold IntOp.andi 1#1 x = 1#1) _ rfl (fun i S hi e => ?_)
  rw [Finset.fold_insert hi, e, h i]
  rfl

/-- The range check passes every word below 99968, so the rows read stand. -/
theorem checked_eq (idx : IVec S1024 32) (hw : ∀ b, (idx b).toNat < 99968) (g t : S1024x256.Idx → BitVec 1) :
    select (broadcastInDim S1024x256 ![0] bcast_S1024_S1024x256_0 (Host.reduce IntOp.andi
      (andi (cmpi .sge (broadcastInDim S1024x1 ![0] bcast_S1024_S1024x1_0 idx)
          (broadcastInDim S1024x1 ![] bcast_S_S1024x1 (constantI S_ 32 0#32)))
        (cmpi .sle (broadcastInDim S1024x1 ![0] bcast_S1024_S1024x1_0 idx)
          (broadcastInDim S1024x1 ![0, 1] bcast_S1x1_S1024x1_0_1 (broadcastInDim S1x1 ![1] bcast_S1_S1x1_1 (constantI S1 32 99999#32)))))
      (constantI S_ 1 1#1) reducesTo_S1024x1_S1024_d1 h_S_)) g t = g := by
  funext j
  refine (congrArg (fun z => Scalar.select z (g j) (t j)) (all_one _ (fun i => ?_) _)).trans (select_one _ _)
  have h := hw (ix1 (i 0))
  show IntOp.andi (BitVec.ofBool ((0#32).sle (broadcastInDim S1024x1 ![0] bcast_S1024_S1024x1_0 idx i)))
    (BitVec.ofBool ((broadcastInDim S1024x1 ![0] bcast_S1024_S1024x1_0 idx i).sle 99999#32)) = 1#1
  rw [column_apply]
  generalize idx (ix1 (i 0)) = w at h
  have h1 : (0#32).sle w = true := by
    simp only [BitVec.sle, decide_eq_true_eq, BitVec.toInt, BitVec.toNat_ofNat]; omega
  have h2 : w.sle 99999#32 = true := by
    simp only [BitVec.sle, decide_eq_true_eq, BitVec.toInt, BitVec.toNat_ofNat]; omega
  rw [h1, h2]; rfl

/-- Row `b` of the rows read is the table's row that word `b` names. -/
theorem rows_apply (idx : IVec S1024 32) (hw : ∀ b, (idx b).toNat < 99968) (tab : S100000x256.Idx → BitVec 1)
    (b : Fin 1024) (l : Fin 256) :
    Host.gather gather_S100000x256_S1024x1_S1024x256_1_0_n_n_0_1_1256 tab
      (broadcastInDim S1024x1 ![0] bcast_S1024_S1024x1_0 idx) (ix2 b l) = tab (ix2 (rowOf (idx (ix1 b))) l) := by
  refine Routing.gather_row _ rfl rfl rfl rfl rfl tab _ b l (rowOf (idx (ix1 b))) ?_ (by decide)
  rw [column_apply]
  have h := hw (ix1 b)
  show idx (ix1 b) = BitVec.ofNat 32 ((idx (ix1 b)).toNat % 100000)
  rw [Nat.mod_eq_of_lt (by omega), BitVec.ofNat_toNat, BitVec.setWidth_eq]

/-- The product with the rows read, as real numbers and repeated along the two spatial axes, at an index. -/
theorem scaled_apply (x : S1024x256x14x14.Idx → EReal) (g : S1024x256.Idx → BitVec 1) (i : S1024x256x14x14.Idx) :
    (mulf x (broadcastInDim S1024x256x14x14 ![0, 1, 2, 3] bcast_S1024x256x1x1_S1024x256x14x14_0_1_2_3
      (uitofp (F := Ideal) .f32 (broadcastInDim S1024x256x1x1 ![0, 1] bcast_S1024x256_S1024x256x1x1_0_1 g)))
        : FVec Ideal S1024x256x14x14 .f32) i
      = x i * (((g (ix2 (i 0) (i 1))).toNat : ℝ) : EReal) := by
  refine congrArg (fun z : EReal => (x i * z : EReal)) ?_
  refine (Idealize.ShloMosaic.broadcastInDim_apply _ _ _ i
    (ix4 (i 0) (i 1) 0 0 : S1024x256x1x1.Idx) (fun a => by fin_cases a <;> rfl)).trans ?_
  refine congrArg (fun z : BitVec 1 => ((z.toNat : ℝ) : EReal)) ?_
  exact Idealize.ShloMosaic.broadcastInDim_apply _ _ _ _ (ix2 (i 0) (i 1)) (fun a => by fin_cases a <;> rfl)

/-- The product with the rows that the start indices read is `dropped`. -/
theorem taken_eq (x : S1024x256x14x14.Idx → EReal) (idx : IVec S1024 32) (hw : ∀ b, (idx b).toNat < 99968)
    (tab : S100000x256.Idx → BitVec 1) :
    (mulf x (broadcastInDim S1024x256x14x14 ![0, 1, 2, 3] bcast_S1024x256x1x1_S1024x256x14x14_0_1_2_3
      (uitofp (F := Ideal) .f32 (broadcastInDim S1024x256x1x1 ![0, 1] bcast_S1024x256_S1024x256x1x1_0_1
        (Host.gather gather_S100000x256_S1024x1_S1024x256_1_0_n_n_0_1_1256 tab
          (broadcastInDim S1024x1 ![0] bcast_S1024_S1024x1_0 idx))))) : FVec Ideal S1024x256x14x14 .f32)
      = dropped x idx tab := by
  funext i
  refine (scaled_apply _ _ i).trans ?_
  exact congrArg (fun z : BitVec 1 => (x i * ((z.toNat : ℝ) : EReal) : EReal)) (rows_apply idx hw tab (i 0) (i 1))

/-- THE REFERENCE'S RUN: from any memory whose index words are below 99968, the reference ends with its result at `dropped`
    of its arguments, and its arguments unchanged. -/
theorem reference_run (m : (ℓ : Loc nD τ sig) → Buf (Elt Ideal) ℓ) (ρ : Dev nD → PrngReg)
    (hw : ∀ (c : Dev nD) (b : S1024.Idx), ((m ((c.tc : Thread nD τ).loc main_arg1) : S1024.Idx → BitVec 32) b).toNat < 99968) :
    θ_run defs (onTc (τ := τ) (main (F := Ideal))) ⟨m, fun _ => 0, ρ⟩ fun r => ∀ c : Dev nD,
      r.2.mem ((c.tc : Thread nD τ).loc main_v4) = dropped (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Cert.ReferenceIdeal.Value.run m ρ)
  rw [wrapped_eq (m ((c.tc : Thread nD τ).loc main_arg1)) (hw c) (broadcastInDim S1024 ![] bcast_S_S1024 (constantI S_ 32 0#32)) _ rfl,
    checked_eq _ (hw c)]
  exact taken_eq _ _ (hw c) _

end Cert.Dropout
-- ==== Proof.Agree.lean ====
/- The two results agree: for index words below 99968, the kernel's result array with its axes put back is the reference's
   product, entry by entry. -/
module

public import proofs.«01_k».proof.Proof.Array
public import proofs.«01_k».proof.Proof.Reference
public import Idealize.ShloMosaic.Lib.Pointwise.Reshape

@[expose] public section

noncomputable section

namespace Cert.Dropout

open Idealize.ShloMosaic Idealize.ShloMosaic.TcCoe Idealize.SL.Sem Cert.KernelIdeal Cert.KernelIdeal.Gen

/-- Row `h` and column `w` of the spatial axes, merged. -/
def pos (h w : Fin 14) : Fin 196 := ⟨14 * h.val + w.val, by omega⟩

/-- Merging the spatial axes keeps an entry's place in row-major order. -/
theorem rowMajor_pos (b : Fin 1024) (l : Fin 256) (h w : Fin 14) :
    (S14x14x1024x256.rowMajor (ix4 h w b l)).val = (S196x1024x256.rowMajor (ix3 (pos h w) b l)).val := by
  refine (rowMajor_val4 _ 3670016 262144 256 rfl rfl rfl).trans
    (Eq.trans ?_ (rowMajor_val3 _ 262144 256 rfl rfl).symm)
  show h.val * 3670016 + w.val * 262144 + b.val * 256 + l.val = (14 * h.val + w.val) * 262144 + b.val * 256 + l.val
  omega

/-- The input with its spatial axes first and merged, at an index. -/
theorem merged_apply (x : S1024x256x14x14.Idx → EReal) (b : Fin 1024) (l : Fin 256) (h w : Fin 14) :
    shapeCast S196x1024x256 (transpose S14x14x1024x256 [2, 3, 0, 1] x transposes_S1024x256x14x14_S14x14x1024x256_2_3_0_1)
      shapeCasts_S14x14x1024x256_S196x1024x256 (ix3 (pos h w) b l) = x (ix4 b l h w) := by
  refine (shapeCast_apply _ _ _ (ix4 h w b l : S14x14x1024x256.Idx) (rowMajor_pos b l h w)).trans ?_
  exact transpose_apply _ _ _ _ _ (fun a => by fin_cases a <;> rfl)

/-- An array with its spatial axis split and put last, at an index. -/
theorem split_apply (y : S196x1024x256.Idx → EReal) (b : Fin 1024) (l : Fin 256) (h w : Fin 14) :
    transpose S1024x256x14x14 [2, 3, 0, 1] (shapeCast S14x14x1024x256 y shapeCasts_S196x1024x256_S14x14x1024x256)
      transposes_S14x14x1024x256_S1024x256x14x14_2_3_0_1 (ix4 b l h w) = y (ix3 (pos h w) b l) := by
  refine (transpose_apply _ _ _ _ (ix4 h w b l : S14x14x1024x256.Idx) (fun a => by fin_cases a <;> rfl)).trans ?_
  exact shapeCast_apply _ _ _ _ (rowMajor_pos b l h w).symm

/-- A mask's bit widened to four bits is the same number, read signed, as the bit. -/
theorem wide_bit (b : BitVec 1) : ((b.setWidth 4).toInt : ℝ) = (b.toNat : ℝ) := by
  obtain rfl | rfl : b = 0#1 ∨ b = 1#1 := by revert b; decide
  · norm_num
  · norm_num [show (BitVec.setWidth 4 1#1).toInt = 1 from by decide]

/-- The kernel's array at the merged position is the product with the mask's bit. -/
theorem masked_apply (x : S1024x256x14x14.Idx → EReal) (idx : S1024.Idx → BitVec 32) (tab : S100000x256.Idx → BitVec 1)
    (b : Fin 1024) (l : Fin 256) (h w : Fin 14) :
    masked (shapeCast S196x1024x256 (transpose S14x14x1024x256 [2, 3, 0, 1] x transposes_S1024x256x14x14_S14x14x1024x256_2_3_0_1)
      shapeCasts_S14x14x1024x256_S196x1024x256) idx (extui 4 tab natLt_1_4) (ix3 (pos h w) b l)
      = dropped x idx tab (ix4 b l h w) := by
  unfold masked dropped
  rw [merged_apply]
  exact congrArg (fun z : ℝ => (x (ix4 b l h w) * (z : EReal) : EReal)) (wide_bit _)

/-- THE RESULT AS A PRODUCT: the kernel's result is `dropped` of its arguments. -/
theorem result_eq (m : (ℓ : Loc nD τ sig) → Buf (Elt Ideal) ℓ) (c : Dev nD) :
    result m c = dropped (m ((c.tc : Thread nD τ).loc main_arg0)) (m ((c.tc : Thread nD τ).loc main_arg1))
      (m ((c.tc : Thread nD τ).loc main_arg2)) := by
  obtain rfl : c = 0 := Subsingleton.elim _ _
  funext i
  obtain ⟨b, l, h, w, rfl⟩ : ∃ (b : Fin 1024) (l : Fin 256) (h w : Fin 14), i = ix4 b l h w :=
    ⟨i 0, i 1, i 2, i 3, by funext a; fin_cases a <;> rfl⟩
  refine (split_apply (array m 0) b l h w).trans ?_
  unfold array
  rw [V_v1, V_v2]
  exact masked_apply _ _ _ b l h w

end Cert.Dropout
-- ==== Proof.lean ====
/- The proof of this certificate's claim: the three programs' frames (the kernel's two under the precondition, from the side
   conditions that it implies), and the equality of the idealized kernel's result with the idealized reference's. -/
module

public import proofs.«01_k».proof.Defs
public import proofs.«01_k».proof.Proof.Sides
public import proofs.«01_k».proof.Proof.Agree
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem Cert.Dropout

attribute [local instance] preFacts

/-- `Kernel` terminates without a fault, its arguments unchanged and its counters at zero, under the precondition. -/
theorem frame_kernel : Cert.quiescent_Kernel := fun m ρ h =>
  Cert.Kernel.Gen.frame m ρ trivial (hyps_kernel m trivial (word_lt _ _ _ (h 0)))

/-- The same of the idealized kernel. -/
theorem frame_ideal : Cert.quiescent_KernelIdeal := fun m ρ h =>
  Cert.KernelIdeal.Gen.frame m ρ trivial (hyps_ideal m trivial (word_lt _ _ _ (h 0)))

/-- The idealized reference terminates without a fault, its arguments unchanged, from any memory; it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- From memories that agree on the arguments, the index words below 99968, the idealized kernel and the idealized reference
    both end with the product of the input with the gathered mask rows as their result. -/
theorem algebraic : Cert.algebraic_KernelIdeal_ReferenceIdeal := by
  intro m g m' g' hpre hargs
  have hw := word_lt _ _ _ (hpre 0)
  refine ⟨fun c => result m c, run m g hw, ?_⟩
  have hw' (c : Dev Cert.ReferenceIdeal.nD) (b : Cert.ReferenceIdeal.S1024.Idx) :
      ((m' ((c.tc : Thread Cert.ReferenceIdeal.nD Cert.ReferenceIdeal.τ).loc Cert.ReferenceIdeal.main_arg1)
        : Cert.ReferenceIdeal.S1024.Idx → BitVec 32) b).toNat < 99968 := by
    rw [(hargs c).2.1]
    exact word_lt _ _ _ (hpre c) b
  refine (θ_run Cert.ReferenceIdeal.defs _ _).mono (fun r h c => ⟨(h c).1.trans ?_, (h c).2⟩) (reference_run m' g' hw')
  rw [(hargs c).1, (hargs c).2.1, (hargs c).2.2]
  exact (result_eq m c).symm

/-- THE CLAIM: the four frames, the idealization's preservation, and the equality of the two results. -/
theorem claim : Cert.Claim := ⟨Cert.Kernel.Gen.facts, Cert.KernelIdeal.Gen.facts, Cert.ReferenceIdeal.Gen.facts, preFacts,
  frame_kernel, frame_ideal, frame_reference, fun m ρ _ => frame_reference m ρ trivial, trivial, algebraic⟩

end Cert.Proof

end
